-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_v74) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S2x896x7168 : Shape := ⟨3, ![2, 896, 7168]⟩
abbrev S7168 : Shape := ⟨1, ![7168]⟩
abbrev S_ : Shape := ⟨0, ![]⟩

class Facts : Prop where
  bcast_S_S7168 : S_.BroadcastsInDim S7168 (![] : Fin 0 → Fin S7168.rank)
  reducesTo_S7168_S_d0 : S7168.ReducesTo [0] S_
  h_S_ : 0 < S_.numel

variable [Facts]

def fn {F : FTy → Type} [FloatOps F] (main_arg0 : FVec F S2x896x7168 .bf16) (main_arg1 : FVec F S7168 .f32) : IVec S_ 1 :=
  let main_v0 : FVec F S7168 .f32 := Host.absf main_arg1
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  let main_c : IVec S_ 1 := constantI S_ 1 1#1
  let main_v3 : IVec S_ 1 := (fun x v => Host.reduce IntOp.andi x v reducesTo_S7168_S_d0 h_S_) main_v2 main_c
  main_v3
-- ==== Kernel.lean ====
abbrev S2x896x7168 : Shape := ⟨3, ![2, 896, 7168]⟩
abbrev S7168 : Shape := ⟨1, ![7168]⟩
abbrev S1792x7168 : Shape := ⟨2, ![1792, 7168]⟩
abbrev S1x7168 : Shape := ⟨2, ![1, 7168]⟩
abbrev S56x1792 : Shape := ⟨2, ![56, 1792]⟩
abbrev S7168x1792 : Shape := ⟨2, ![7168, 1792]⟩
abbrev S14x7168 : Shape := ⟨2, ![14, 7168]⟩
abbrev S14x128 : Shape := ⟨2, ![14, 128]⟩
abbrev S128x7168 : Shape := ⟨2, ![128, 7168]⟩
abbrev S56x128 : Shape := ⟨2, ![56, 128]⟩
abbrev S7168x128 : Shape := ⟨2, ![7168, 128]⟩
abbrev S256x256 : Shape := ⟨2, ![256, 256]⟩
abbrev S56x16x128 : Shape := ⟨3, ![56, 16, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩
abbrev S256x128 : Shape := ⟨2, ![256, 128]⟩
abbrev S1x14x128 : Shape := ⟨3, ![1, 14, 128]⟩

abbrev nBuf : Space → Nat
  | .hbm => 9
  | .vmem => 13
  | .smem => 0
  | _ => 0

abbrev bufTy : (tb : Table) → Fin (tcTables nBuf tb) → BufTy
  | .hbm, ⟨0, _⟩ => ⟨S2x896x7168, .bf16⟩
  | .hbm, ⟨1, _⟩ => ⟨S7168, .f32⟩
  | .hbm, ⟨2, _⟩ => ⟨S1792x7168, .bf16⟩
  | .hbm, ⟨3, _⟩ => ⟨S1x7168, .f32⟩
  | .hbm, ⟨4, _⟩ => ⟨S1792x7168, .fp8e4m3⟩
  | .hbm, ⟨5, _⟩ => ⟨S56x1792, .f32⟩
  | .hbm, ⟨6, _⟩ => ⟨S7168x1792, .fp8e4m3⟩
  | .hbm, ⟨7, _⟩ => ⟨S14x7168, .f32⟩
  | .hbm, ⟨8, _⟩ => ⟨S14x128, .f32⟩
  | .local _ .vmem, ⟨0, _⟩ => ⟨S128x7168, .bf16⟩
  | .local _ .vmem, ⟨1, _⟩ => ⟨S128x7168, .bf16⟩
  | .local _ .vmem, ⟨2, _⟩ => ⟨S1x7168, .f32⟩
  | .local _ .vmem, ⟨3, _⟩ => ⟨S128x7168, .fp8e4m3⟩
  | .local _ .vmem, ⟨4, _⟩ => ⟨S128x7168, .fp8e4m3⟩
  | .local _ .vmem, ⟨5, _⟩ => ⟨S56x128, .f32⟩
  | .local _ .vmem, ⟨6, _⟩ => ⟨S56x128, .f32⟩
  | .local _ .vmem, ⟨7, _⟩ => ⟨S7168x128, .fp8e4m3⟩
  | .local _ .vmem, ⟨8, _⟩ => ⟨S7168x128, .fp8e4m3⟩
  | .local _ .vmem, ⟨9, _⟩ => ⟨S14x7168, .f32⟩
  | .local _ .vmem, ⟨10, _⟩ => ⟨S14x128, .f32⟩
  | .local _ .vmem, ⟨11, _⟩ => ⟨S256x256, .fp8e4m3⟩
  | .local _ .vmem, ⟨12, _⟩ => ⟨S56x16x128, .f32⟩
  | _, _ => ⟨S2x896x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![14], ![false]⟩

def k0_off1 (i : grid0.Coords) : Fin 2 → Nat :=
  let arg0 : BitVec 32 := BitVec.ofNat 32 (i 0).val
  let v292 : Index := Scalar.indexCast arg0
  let c0_59 : Index := 0#32
  ![v292.toNat, 0]
def k0_off2 (i : grid0.Coords) : Fin 3 → Nat :=
  let c0_91 : Index := 0#32
  let arg0 : BitVec 32 := BitVec.ofNat 32 (i 0).val
  let v443 : Index := Scalar.indexCast arg0
  let c0_92 : Index := 0#32
  ![0, v443.toNat, 0]
def k0_off3 (i : grid0.Coords) : Fin 3 → Nat :=
  let c1 : Index := 1#32
  let arg0 : BitVec 32 := BitVec.ofNat 32 (i 0).val
  let v606 : Index := Scalar.indexCast arg0
  let c0_143 : Index := 0#32
  ![1, v606.toNat, 0]
def k0_off4 (i : grid0.Coords) : Fin 3 → Nat :=
  let c2 : Index := 2#32
  let arg0 : BitVec 32 := BitVec.ofNat 32 (i 0).val
  let v769 : Index := Scalar.indexCast arg0
  let c0_194 : Index := 0#32
  ![2, v769.toNat, 0]
def k0_off5 (i : grid0.Coords) : Fin 3 → Nat :=
  let c3 : Index := 3#32
  let arg0 : BitVec 32 := BitVec.ofNat 32 (i 0).val
  let v932 : Index := Scalar.indexCast arg0
  let c0_245 : Index := 0#32
  ![3, v932.toNat, 0]
def k0_off6 (i : grid0.Coords) : Fin 3 → Nat :=
  let c4 : Index := 4#32
  let arg0 : BitVec 32 := BitVec.ofNat 32 (i 0).val
  let v1102 : Index := Scalar.indexCast arg0
  let c0_303 : Index := 0#32
  ![4, v1102.toNat, 0]
def k0_off7 (i : grid0.Coords) : Fin 3 → Nat :=
  let c5 : Index := 5#32
  let arg0 : BitVec 32 := BitVec.ofNat 32 (i 0).val
  let v1265 : Index := Scalar.indexCast arg0
  let c0_354 : Index := 0#32
  ![5, v1265.toNat, 0]
def k0_off8 (i : grid0.Coords) : Fin 3 → Nat :=
  let c6 : Index := 6#32
  let arg0 : BitVec 32 := BitVec.ofNat 32 (i 0).val
  let v1428 : Index := Scalar.indexCast arg0
  let c0_405 : Index := 0#32
  ![6, v1428.toNat, 0]
def k0_off9 (i : grid0.Coords) : Fin 3 → Nat :=
  let c7 : Index := 7#32
  let arg0 : BitVec 32 := BitVec.ofNat 32 (i 0).val
  let v1591 : Index := Scalar.indexCast arg0
  let c0_456 : Index := 0#32
  ![7, v1591.toNat, 0]
def k0_off10 (i : grid0.Coords) : Fin 3 → Nat :=
  let c8 : Index := 8#32
  let arg0 : BitVec 32 := BitVec.ofNat 32 (i 0).val
  let v1761 : Index := Scalar.indexCast arg0
  let c0_514 : Index := 0#32
  ![8, v1761.toNat, 0]
def k0_off11 (i : grid0.Coords) : Fin 3 → Nat :=
  let c9 : Index := 9#32
  let arg0 : BitVec 32 := BitVec.ofNat 32 (i 0).val
  let v1924 : Index := Scalar.indexCast arg0
  let c0_565 : Index := 0#32
  ![9, v1924.toNat, 0]
def k0_off12 (i : grid0.Coords) : Fin 3 → Nat :=
  let c10 : Index := 10#32
  let arg0 : BitVec 32 := BitVec.ofNat 32 (i 0).val
  let v2087 : Index := Scalar.indexCast arg0
  let c0_616 : Index := 0#32
  ![10, v2087.toNat, 0]
def k0_off13 (i : grid0.Coords) : Fin 3 → Nat :=
  let c11 : Index := 11#32
  let arg0 : BitVec 32 := BitVec.ofNat 32 (i 0).val
  let v2250 : Index := Scalar.indexCast arg0
  let c0_667 : Index := 0#32
  ![11, v2250.toNat, 0]
def k0_off14 (i : grid0.Coords) : Fin 3 → Nat :=
  let c12 : Index := 12#32
  let arg0 : BitVec 32 := BitVec.ofNat 32 (i 0).val
  let v2420 : Index := Scalar.indexCast arg0
  let c0_725 : Index := 0#32
  ![12, v2420.toNat, 0]
def k0_off15 (i : grid0.Coords) : Fin 3 → Nat :=
  let c13 : Index := 13#32
  let arg0 : BitVec 32 := BitVec.ofNat 32 (i 0).val
  let v2583 : Index := Scalar.indexCast arg0
  let c0_776 : Index := 0#32
  ![13, v2583.toNat, 0]
def k0_off16 (i : grid0.Coords) : Fin 3 → Nat :=
  let c14 : Index := 14#32
  let arg0 : BitVec 32 := BitVec.ofNat 32 (i 0).val
  let v2746 : Index := Scalar.indexCast arg0
  let c0_827 : Index := 0#32
  ![14, v2746.toNat, 0]
def k0_off17 (i : grid0.Coords) : Fin 3 → Nat :=
  let c15 : Index := 15#32
  let arg0 : BitVec 32 := BitVec.ofNat 32 (i 0).val
  let v2909 : Index := Scalar.indexCast arg0
  let c0_878 : Index := 0#32
  ![15, v2909.toNat, 0]
def k0_off18 (i : grid0.Coords) : Fin 3 → Nat :=
  let c16 : Index := 16#32
  let arg0 : BitVec 32 := BitVec.ofNat 32 (i 0).val
  let v3079 : Index := Scalar.indexCast arg0
  let c0_936 : Index := 0#32
  ![16, v3079.toNat, 0]
def k0_off19 (i : grid0.Coords) : Fin 3 → Nat :=
  let c17 : Index := 17#32
  let arg0 : BitVec 32 := BitVec.ofNat 32 (i 0).val
  let v3242 : Index := Scalar.indexCast arg0
  let c0_987 : Index := 0#32
  ![17, v3242.toNat, 0]
def k0_off20 (i : grid0.Coords) : Fin 3 → Nat :=
  let c18 : Index := 18#32
  let arg0 : BitVec 32 := BitVec.ofNat 32 (i 0).val
  let v3405 : Index := Scalar.indexCast arg0
  let c0_1038 : Index := 0#32
  ![18, v3405.toNat, 0]
def k0_off21 (i : grid0.Coords) : Fin 3 → Nat :=
  let c19 : Index := 19#32
  let arg0 : BitVec 32 := BitVec.ofNat 32 (i 0).val
  let v3568 : Index := Scalar.indexCast arg0
  let c0_1089 : Index := 0#32
  ![19, v3568.toNat, 0]
def k0_off22 (i : grid0.Coords) : Fin 3 → Nat :=
  let c20 : Index := 20#32
  let arg0 : BitVec 32 := BitVec.ofNat 32 (i 0).val
  let v3738 : Index := Scalar.indexCast arg0
  let c0_1147 : Index := 0#32
  ![20, v3738.toNat, 0]
def k0_off23 (i : grid0.Coords) : Fin 3 → Nat :=
  let c21 : Index := 21#32
  let arg0 : BitVec 32 := BitVec.ofNat 32 (i 0).val
  let v3901 : Index := Scalar.indexCast arg0
  let c0_1198 : Index := 0#32
  ![21, v3901.toNat, 0]
def k0_off24 (i : grid0.Coords) : Fin 3 → Nat :=
  let c22 : Index := 22#32
  let arg0 : BitVec 32 := BitVec.ofNat 32 (i 0).val
  let v4064 : Index := Scalar.indexCast arg0
  let c0_1249 : Index := 0#32
  ![22, v4064.toNat, 0]
def k0_off25 (i : grid0.Coords) : Fin 3 → Nat :=
  let c23 : Index := 23#32
  let arg0 : BitVec 32 := BitVec.ofNat 32 (i 0).val
  let v4227 : Index := Scalar.indexCast arg0
  let c0_1301 : Index := 0#32
  ![23, v4227.toNat, 0]
def k0_off26 (i : grid0.Coords) : Fin 3 → Nat :=
  let c24 : Index := 24#32
  let arg0 : BitVec 32 := BitVec.ofNat 32 (i 0).val
  let v4397 : Index := Scalar.indexCast arg0
  let c0_1359 : Index := 0#32
  ![24, v4397.toNat, 0]
def k0_off27 (i : grid0.Coords) : Fin 3 → Nat :=
  let c25 : Index := 25#32
  let arg0 : BitVec 32 := BitVec.ofNat 32 (i 0).val
  let v4560 : Index := Scalar.indexCast arg0
  let c0_1410 : Index := 0#32
  ![25, v4560.toNat, 0]
def k0_off28 (i : grid0.Coords) : Fin 3 → Nat :=
  let c26 : Index := 26#32
  let arg0 : BitVec 32 := BitVec.ofNat 32 (i 0).val
  let v4723 : Index := Scalar.indexCast arg0
  let c0_1461 : Index := 0#32
  ![26, v4723.toNat, 0]
def k0_off29 (i : grid0.Coords) : Fin 3 → Nat :=
  let c27 : Index := 27#32
  let arg0 : BitVec 32 := BitVec.ofNat 32 (i 0).val
  let v4886 : Index := Scalar.indexCast arg0
  let c0_1512 : Index := 0#32
  ![27, v4886.toNat, 0]
def k0_off30 (i : grid0.Coords) : Fin 3 → Nat :=
  let c28 : Index := 28#32
  let arg0 : BitVec 32 := BitVec.ofNat 32 (i 0).val
  let v5056 : Index := Scalar.indexCast arg0
  let c0_1570 : Index := 0#32
  ![28, v5056.toNat, 0]
def k0_off31 (i : grid0.Coords) : Fin 3 → Nat :=
  let c29 : Index := 29#32
  let arg0 : BitVec 32 := BitVec.ofNat 32 (i 0).val
  let v5219 : Index := Scalar.indexCast arg0
  let c0_1621 : Index := 0#32
  ![29, v5219.toNat, 0]
def k0_off32 (i : grid0.Coords) : Fin 3 → Nat :=
  let c30 : Index := 30#32
  let arg0 : BitVec 32 := BitVec.ofNat 32 (i 0).val
  let v5382 : Index := Scalar.indexCast arg0
  let c0_1672 : Index := 0#32
  ![30, v5382.toNat, 0]
def k0_off33 (i : grid0.Coords) : Fin 3 → Nat :=
  let c31 : Index := 31#32
  let arg0 : BitVec 32 := BitVec.ofNat 32 (i 0).val
  let v5545 : Index := Scalar.indexCast arg0
  let c0_1723 : Index := 0#32
  ![31, v5545.toNat, 0]
def k0_off34 (i : grid0.Coords) : Fin 3 → Nat :=
  let c32 : Index := 32#32
  let arg0 : BitVec 32 := BitVec.ofNat 32 (i 0).val
  let v5715 : Index := Scalar.indexCast arg0
  let c0_1781 : Index := 0#32
  ![32, v5715.toNat, 0]
def k0_off35 (i : grid0.Coords) : Fin 3 → Nat :=
  let c33 : Index := 33#32
  let arg0 : BitVec 32 := BitVec.ofNat 32 (i 0).val
  let v5878 : Index := Scalar.indexCast arg0
  let c0_1832 : Index := 0#32
  ![33, v5878.toNat, 0]
def k0_off36 (i : grid0.Coords) : Fin 3 → Nat :=
  let c34 : Index := 34#32
  let arg0 : BitVec 32 := BitVec.ofNat 32 (i 0).val
  let v6041 : Index := Scalar.indexCast arg0
  let c0_1883 : Index := 0#32
  ![34, v6041.toNat, 0]
def k0_off37 (i : grid0.Coords) : Fin 3 → Nat :=
  let c35 : Index := 35#32
  let arg0 : BitVec 32 := BitVec.ofNat 32 (i 0).val
  let v6204 : Index := Scalar.indexCast arg0
  let c0_1934 : Index := 0#32
  ![35, v6204.toNat, 0]
def k0_off38 (i : grid0.Coords) : Fin 3 → Nat :=
  let c36 : Index := 36#32
  let arg0 : BitVec 32 := BitVec.ofNat 32 (i 0).val
  let v6374 : Index := Scalar.indexCast arg0
  let c0_1992 : Index := 0#32
  ![36, v6374.toNat, 0]
def k0_off39 (i : grid0.Coords) : Fin 3 → Nat :=
  let c37 : Index := 37#32
  let arg0 : BitVec 32 := BitVec.ofNat 32 (i 0).val
  let v6537 : Index := Scalar.indexCast arg0
  let c0_2043 : Index := 0#32
  ![37, v6537.toNat, 0]
def k0_off40 (i : grid0.Coords) : Fin 3 → Nat :=
  let c38 : Index := 38#32
  let arg0 : BitVec 32 := BitVec.ofNat 32 (i 0).val
  let v6700 : Index := Scalar.indexCast arg0
  let c0_2094 : Index := 0#32
  ![38, v6700.toNat, 0]
def k0_off41 (i : grid0.Coords) : Fin 3 → Nat :=
  let c39 : Index := 39#32
  let arg0 : BitVec 32 := BitVec.ofNat 32 (i 0).val
  let v6863 : Index := Scalar.indexCast arg0
  let c0_2145 : Index := 0#32
  ![39, v6863.toNat, 0]
def k0_off42 (i : grid0.Coords) : Fin 3 → Nat :=
  let c40 : Index := 40#32
  let arg0 : BitVec 32 := BitVec.ofNat 32 (i 0).val
  let v7033 : Index := Scalar.indexCast arg0
  let c0_2203 : Index := 0#32
  ![40, v7033.toNat, 0]
def k0_off43 (i : grid0.Coords) : Fin 3 → Nat :=
  let c41 : Index := 41#32
  let arg0 : BitVec 32 := BitVec.ofNat 32 (i 0).val
  let v7196 : Index := Scalar.indexCast arg0
  let c0_2254 : Index := 0#32
  ![41, v7196.toNat, 0]
def k0_off44 (i : grid0.Coords) : Fin 3 → Nat :=
  let c42 : Index := 42#32
  let arg0 : BitVec 32 := BitVec.ofNat 32 (i 0).val
  let v7359 : Index := Scalar.indexCast arg0
  let c0_2305 : Index := 0#32
  ![42, v7359.toNat, 0]
def k0_off45 (i : grid0.Coords) : Fin 3 → Nat :=
  let c43 : Index := 43#32
  let arg0 : BitVec 32 := BitVec.ofNat 32 (i 0).val
  let v7522 : Index := Scalar.indexCast arg0
  let c0_2356 : Index := 0#32
  ![43, v7522.toNat, 0]
def k0_off46 (i : grid0.Coords) : Fin 3 → Nat :=
  let c44 : Index := 44#32
  let arg0 : BitVec 32 := BitVec.ofNat 32 (i 0).val
  let v7692 : Index := Scalar.indexCast arg0
  let c0_2414 : Index := 0#32
  ![44, v7692.toNat, 0]
def k0_off47 (i : grid0.Coords) : Fin 3 → Nat :=
  let c45 : Index := 45#32
  let arg0 : BitVec 32 := BitVec.ofNat 32 (i 0).val
  let v7855 : Index := Scalar.indexCast arg0
  let c0_2465 : Index := 0#32
  ![45, v7855.toNat, 0]
def k0_off48 (i : grid0.Coords) : Fin 3 → Nat :=
  let c46 : Index := 46#32
  let arg0 : BitVec 32 := BitVec.ofNat 32 (i 0).val
  let v8018 : Index := Scalar.indexCast arg0
  let c0_2516 : Index := 0#32
  ![46, v8018.toNat, 0]
def k0_off49 (i : grid0.Coords) : Fin 3 → Nat :=
  let c47 : Index := 47#32
  let arg0 : BitVec 32 := BitVec.ofNat 32 (i 0).val
  let v8181 : Index := Scalar.indexCast arg0
  let c0_2567 : Index := 0#32
  ![47, v8181.toNat, 0]
def k0_off50 (i : grid0.Coords) : Fin 3 → Nat :=
  let c48 : Index := 48#32
  let arg0 : BitVec 32 := BitVec.ofNat 32 (i 0).val
  let v8351 : Index := Scalar.indexCast arg0
  let c0_2625 : Index := 0#32
  ![48, v8351.toNat, 0]
def k0_off51 (i : grid0.Coords) : Fin 3 → Nat :=
  let c49 : Index := 49#32
  let arg0 : BitVec 32 := BitVec.ofNat 32 (i 0).val
  let v8514 : Index := Scalar.indexCast arg0
  let c0_2676 : Index := 0#32
  ![49, v8514.toNat, 0]
def k0_off52 (i : grid0.Coords) : Fin 3 → Nat :=
  let c50 : Index := 50#32
  let arg0 : BitVec 32 := BitVec.ofNat 32 (i 0).val
  let v8677 : Index := Scalar.indexCast arg0
  let c0_2727 : Index := 0#32
  ![50, v8677.toNat, 0]
def k0_off53 (i : grid0.Coords) : Fin 3 → Nat :=
  let c51 : Index := 51#32
  let arg0 : BitVec 32 := BitVec.ofNat 32 (i 0).val
  let v8840 : Index := Scalar.indexCast arg0
  let c0_2778 : Index := 0#32
  ![51, v8840.toNat, 0]
def k0_off54 (i : grid0.Coords) : Fin 3 → Nat :=
  let c52 : Index := 52#32
  let arg0 : BitVec 32 := BitVec.ofNat 32 (i 0).val
  let v9010 : Index := Scalar.indexCast arg0
  let c0_2836 : Index := 0#32
  ![52, v9010.toNat, 0]
def k0_off55 (i : grid0.Coords) : Fin 3 → Nat :=
  let c53 : Index := 53#32
  let arg0 : BitVec 32 := BitVec.ofNat 32 (i 0).val
  let v9173 : Index := Scalar.indexCast arg0
  let c0_2887 : Index := 0#32
  ![53, v9173.toNat, 0]
def k0_off56 (i : grid0.Coords) : Fin 3 → Nat :=
  let c54 : Index := 54#32
  let arg0 : BitVec 32 := BitVec.ofNat 32 (i 0).val
  let v9336 : Index := Scalar.indexCast arg0
  let c0_2938 : Index := 0#32
  ![54, v9336.toNat, 0]
def k0_off57 (i : grid0.Coords) : Fin 3 → Nat :=
  let c55 : Index := 55#32
  let arg0 : BitVec 32 := BitVec.ofNat 32 (i 0).val
  let v9499 : Index := Scalar.indexCast arg0
  let c0_2989 : Index := 0#32
  ![55, v9499.toNat, 0]
def k0_cond1 (i : grid0.Coords) : BitVec 1 :=
  let arg0 : BitVec 32 := BitVec.ofNat 32 (i 0).val
  let c13_i32_3024 : BitVec 32 := 13#32
  let v9590 : BitVec 1 := Scalar.cmpi .eq arg0 c13_i32_3024
  let v9591 : BitVec 32 := Scalar.extui v9590
  let c0_i32_3025 : BitVec 32 := 0#32
  let v9592 : BitVec 1 := Scalar.cmpi .ne v9591 c0_i32_3025
  v9592

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7168x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S14x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S14x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "inv_d" => some ((1 / 7168 : ℝ) : EReal)
  | _ => none
-- ==== ReferenceIdeal.lean ====
abbrev S2x896x7168 : Shape := ⟨3, ![2, 896, 7168]⟩
abbrev S7168 : Shape := ⟨1, ![7168]⟩
abbrev S1792x7168 : Shape := ⟨2, ![1792, 7168]⟩
abbrev S_ : Shape := ⟨0, ![]⟩
abbrev S1792 : Shape := ⟨1, ![1792]⟩
abbrev S1792x1 : Shape := ⟨2, ![1792, 1]⟩
abbrev S1x7168 : Shape := ⟨2, ![1, 7168]⟩
abbrev S1792x56x128 : Shape := ⟨3, ![1792, 56, 128]⟩
abbrev S1792x56 : Shape := ⟨2, ![1792, 56]⟩
abbrev S1792x56x1 : Shape := ⟨3, ![1792, 56, 1]⟩
abbrev S253 : Shape := ⟨1, ![253]⟩
abbrev S1x1x253 : Shape := ⟨3, ![1, 1, 253]⟩
abbrev S1792x56x253 : Shape := ⟨3, ![1792, 56, 253]⟩
abbrev S7168x1792 : Shape := ⟨2, ![7168, 1792]⟩
abbrev S7168x14x128 : Shape := ⟨3, ![7168, 14, 128]⟩
abbrev S7168x14 : Shape := ⟨2, ![7168, 14]⟩
abbrev S7168x14x1 : Shape := ⟨3, ![7168, 14, 1]⟩
abbrev S7168x14x253 : Shape := ⟨3, ![7168, 14, 253]⟩
abbrev S56x1792 : Shape := ⟨2, ![56, 1792]⟩
abbrev S14x7168 : Shape := ⟨2, ![14, 7168]⟩
abbrev S14x128 : Shape := ⟨2, ![14, 128]⟩

abbrev nBuf : Space → Nat
  | .hbm => 120
  | .vmem => 0
  | .smem => 0
  | _ => 0

abbrev bufTy : (tb : Table) → Fin (tcTables nBuf tb) → BufTy
  | .hbm, ⟨0, _⟩ => ⟨S2x896x7168, .bf16⟩
  | .hbm, ⟨1, _⟩ => ⟨S7168, .f32⟩
  | .hbm, ⟨2, _⟩ => ⟨S2x896x7168, .f32⟩
  | .hbm, ⟨3, _⟩ => ⟨S1792x7168, .f32⟩
  | .hbm, ⟨4, _⟩ => ⟨S1792x7168, .f32⟩
  | .hbm, ⟨5, _⟩ => ⟨S_, .f32⟩
  | .hbm, ⟨6, _⟩ => ⟨S1792, .f32⟩
  | .hbm, ⟨7, _⟩ => ⟨S1792x1, .f32⟩
  | .hbm, ⟨8, _⟩ => ⟨S_, .f32⟩
  | .hbm, ⟨9, _⟩ => ⟨S1792x1, .f32⟩
  | .hbm, ⟨10, _⟩ => ⟨S1792x1, .f32⟩
  | .hbm, ⟨11, _⟩ => ⟨S_, .f32⟩
  | .hbm, ⟨12, _⟩ => ⟨S1792x1, .f32⟩
  | .hbm, ⟨13, _⟩ => ⟨S1792x1, .f32⟩
  | .hbm, ⟨14, _⟩ => ⟨S1792x1, .f32⟩
  | .hbm, ⟨15, _⟩ => ⟨S1792x7168, .f32⟩
  | .hbm, ⟨16, _⟩ => ⟨S1792x7168, .f32⟩
  | .hbm, ⟨17, _⟩ => ⟨S1x7168, .f32⟩
  | .hbm, ⟨18, _⟩ => ⟨S1792x7168, .f32⟩
  | .hbm, ⟨19, _⟩ => ⟨S1792x7168, .f32⟩
  | .hbm, ⟨20, _⟩ => ⟨S1792x56x128, .f32⟩
  | .hbm, ⟨21, _⟩ => ⟨S1792x56x128, .f32⟩
  | .hbm, ⟨22, _⟩ => ⟨S_, .f32⟩
  | .hbm, ⟨23, _⟩ => ⟨S1792x56, .f32⟩
  | .hbm, ⟨24, _⟩ => ⟨S1792x56x1, .f32⟩
  | .hbm, ⟨25, _⟩ => ⟨S_, .f32⟩
  | .hbm, ⟨26, _⟩ => ⟨S1792x56x1, .f32⟩
  | .hbm, ⟨27, _⟩ => ⟨S1792x56x1, .f32⟩
  | .hbm, ⟨28, _⟩ => ⟨S253, .i32⟩
  | .hbm, ⟨29, _⟩ => ⟨S_, .i32⟩
  | .hbm, ⟨30, _⟩ => ⟨S253, .i32⟩
  | .hbm, ⟨31, _⟩ => ⟨S253, .i32⟩
  | .hbm, ⟨32, _⟩ => ⟨S253, .f32⟩
  | .hbm, ⟨33, _⟩ => ⟨S_, .f32⟩
  | .hbm, ⟨34, _⟩ => ⟨S253, .f32⟩
  | .hbm, ⟨35, _⟩ => ⟨S253, .f32⟩
  | .hbm, ⟨36, _⟩ => ⟨S1x1x253, .f32⟩
  | .hbm, ⟨37, _⟩ => ⟨S1792x56x253, .f32⟩
  | .hbm, ⟨38, _⟩ => ⟨S1792x56x253, .f32⟩
  | .hbm, ⟨39, _⟩ => ⟨S1792x56x253, .i1⟩
  | .hbm, ⟨40, _⟩ => ⟨S_, .f32⟩
  | .hbm, ⟨41, _⟩ => ⟨S_, .f32⟩
  | .hbm, ⟨42, _⟩ => ⟨S1792x56x253, .f32⟩
  | .hbm, ⟨43, _⟩ => ⟨S1792x56x253, .f32⟩
  | .hbm, ⟨44, _⟩ => ⟨S1792x56x253, .f32⟩
  | .hbm, ⟨45, _⟩ => ⟨S_, .f32⟩
  | .hbm, ⟨46, _⟩ => ⟨S1792x56, .f32⟩
  | .hbm, ⟨47, _⟩ => ⟨S1792x56x1, .f32⟩
  | .hbm, ⟨48, _⟩ => ⟨S_, .f32⟩
  | .hbm, ⟨49, _⟩ => ⟨S1792x56x1, .f32⟩
  | .hbm, ⟨50, _⟩ => ⟨S1792x56x1, .i1⟩
  | .hbm, ⟨51, _⟩ => ⟨S_, .f32⟩
  | .hbm, ⟨52, _⟩ => ⟨S_, .f32⟩
  | .hbm, ⟨53, _⟩ => ⟨S1792x56x1, .f32⟩
  | .hbm, ⟨54, _⟩ => ⟨S1792x56x1, .f32⟩
  | .hbm, ⟨55, _⟩ => ⟨S1792x56x128, .f32⟩
  | .hbm, ⟨56, _⟩ => ⟨S1792x56x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1792x56x128, .f32⟩
  | .hbm, ⟨61, _⟩ => ⟨S1792x56x128, .f32⟩
  | .hbm, ⟨62, _⟩ => ⟨S_, .f32⟩
  | .hbm, ⟨63, _⟩ => ⟨S1792x56x128, .f32⟩
  | .hbm, ⟨64, _⟩ => ⟨S1792x56x128, .f32⟩
  | .hbm, ⟨65, _⟩ => ⟨S1792x56x128, .fp8e4m3⟩
  | .hbm, ⟨66, _⟩ => ⟨S7168x1792, .f32⟩
  | .hbm, ⟨67, _⟩ => ⟨S7168x14x128, .f32⟩
  | .hbm, ⟨68, _⟩ => ⟨S7168x14x128, .f32⟩
  | .hbm, ⟨69, _⟩ => ⟨S_, .f32⟩
  | .hbm, ⟨70, _⟩ => ⟨S7168x14, .f32⟩
  | .hbm, ⟨71, _⟩ => ⟨S7168x14x1, .f32⟩
  | .hbm, ⟨72, _⟩ => ⟨S_, .f32⟩
  | .hbm, ⟨73, _⟩ => ⟨S7168x14x1, .f32⟩
  | .hbm, ⟨74, _⟩ => ⟨S7168x14x1, .f32⟩
  | .hbm, ⟨75, _⟩ => ⟨S253, .i32⟩
  | .hbm, ⟨76, _⟩ => ⟨S_, .i32⟩
  | .hbm, ⟨77, _⟩ => ⟨S253, .i32⟩
  | .hbm, ⟨78, _⟩ => ⟨S253, .i32⟩
  | .hbm, ⟨79, _⟩ => ⟨S253, .f32⟩
  | .hbm, ⟨80, _⟩ => ⟨S_, .f32⟩
  | .hbm, ⟨81, _⟩ => ⟨S253, .f32⟩
  | .hbm, ⟨82, _⟩ => ⟨S253, .f32⟩
  | .hbm, ⟨83, _⟩ => ⟨S1x1x253, .f32⟩
  | .hbm, ⟨84, _⟩ => ⟨S7168x14x253, .f32⟩
  | .hbm, ⟨85, _⟩ => ⟨S7168x14x253, .f32⟩
  | .hbm, ⟨86, _⟩ => ⟨S7168x14x253, .i1⟩
  | .hbm, ⟨87, _⟩ => ⟨S_, .f32⟩
  | .hbm, ⟨88, _⟩ => ⟨S_, .f32⟩
  | .hbm, ⟨89, _⟩ => ⟨S7168x14x253, .f32⟩
  | .hbm, ⟨90, _⟩ => ⟨S7168x14x253, .f32⟩
  | .hbm, ⟨91, _⟩ => ⟨S7168x14x253, .f32⟩
  | .hbm, ⟨92, _⟩ => ⟨S_, .f32⟩
  | .hbm, ⟨93, _⟩ => ⟨S7168x14, .f32⟩
  | .hbm, ⟨94, _⟩ => ⟨S7168x14x1, .f32⟩
  | .hbm, ⟨95, _⟩ => ⟨S_, .f32⟩
  | .hbm, ⟨96, _⟩ => ⟨S7168x14x1, .f32⟩
  | .hbm, ⟨97, _⟩ => ⟨S7168x14x1, .i1⟩
  | .hbm, ⟨98, _⟩ => ⟨S_, .f32⟩
  | .hbm, ⟨99, _⟩ => ⟨S_, .f32⟩
  | .hbm, ⟨100, _⟩ => ⟨S7168x14x1, .f32⟩
  | .hbm, ⟨101, _⟩ => ⟨S7168x14x1, .f32⟩
  | .hbm, ⟨102, _⟩ => ⟨S7168x14x128, .f32⟩
  | .hbm, ⟨103, _⟩ => ⟨S7168x14x128, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S7168x14x128, .f32⟩
  | .hbm, ⟨108, _⟩ => ⟨S7168x14x128, .f32⟩
  | .hbm, ⟨109, _⟩ => ⟨S_, .f32⟩
  | .hbm, ⟨110, _⟩ => ⟨S7168x14x128, .f32⟩
  | .hbm, ⟨111, _⟩ => ⟨S7168x14x128, .f32⟩
  | .hbm, ⟨112, _⟩ => ⟨S7168x14x128, .fp8e4m3⟩
  | .hbm, ⟨113, _⟩ => ⟨S1792x7168, .fp8e4m3⟩
  | .hbm, ⟨114, _⟩ => ⟨S1792x56, .f32⟩
  | .hbm, ⟨115, _⟩ => ⟨S56x1792, .f32⟩
  | .hbm, ⟨116, _⟩ => ⟨S7168x1792, .fp8e4m3⟩
  | .hbm, ⟨117, _⟩ => ⟨S7168x14, .f32⟩
  | .hbm, ⟨118, _⟩ => ⟨S14x7168, .f32⟩
  | .hbm, ⟨119, _⟩ => ⟨S14x128, .f32⟩
  | _, _ => ⟨S2x896x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_call1_v0 : Ref sig .tc := ⟨.hbm, 52, rfl⟩
abbrev main_call1_v1 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_15 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v58 : Ref sig .tc := ⟨.hbm, 91, rfl⟩
abbrev main_cst_16 : Ref sig .tc := ⟨.hbm, 92, rfl⟩
abbrev main_v59 : Ref sig .tc := ⟨.hbm, 93, rfl⟩
abbrev main_v60 : Ref sig .tc := ⟨.hbm, 94, rfl⟩
abbrev main_cst_17 : Ref sig .tc := ⟨.hbm, 95, rfl⟩
abbrev main_v61 : Ref sig .tc := ⟨.hbm, 96, rfl⟩
abbrev main_v62 : Ref sig .tc := ⟨.hbm, 97, rfl⟩
abbrev main_cst_18 : Ref sig .tc := ⟨.hbm, 98, rfl⟩
abbrev main_call4_v0 : Ref sig .tc := ⟨.hbm, 99, rfl⟩
abbrev main_call4_v1 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_19 : Ref sig .tc := ⟨.hbm, 104, rfl⟩
abbrev main_cst_20 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩

abbrev nD : Nat := 1
abbrev τ : Topo := Topo.v7x

variable {F : FTy → Type} [FloatOps F]
-- ==== Proof.KernelRuns.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

/-! # What the float program's runs share

The same as for the program at the extended reals, the outputs' contents left unnamed. -/

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every point the buffer of input 0 holds its block, whether or not it was fetched there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that ends with the input arrays unchanged ends with the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x7168 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S7168x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S14x7168 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S14x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x256 .fp8e4m3 := Memref.whole cc0_scratch0
abbrev scM0_1 : Memref sig .tc .vmem S56x16x128 .f32 := Memref.whole cc0_scratch1

/-- What a grid step keeps beside its blocks: the two scratch buffers, at some contents, and the random state. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KernelRunA.lean ====
module

public import proofs.«01_k».proof.Proof.KernelRuns

@[expose] public section

/-! # The float program's body, before the last point -/

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 5280000 in
/-- The body before the last point: given its input blocks, and anything in its outputs and scratch buffers, it runs to its end and
    hands the input blocks back as they were. -/
theorem kernelRun0_A (c : Dev nD) (i : grid0.Coords) (arg1 : Memref sig .tc .vmem S128x7168 .bf16) (harg1 : arg1.IsWhole) (arg2 : Memref sig .tc .vmem S1x7168 .f32) (harg2 : arg2.IsWhole) (arg3 : Memref sig .tc .vmem S128x7168 .fp8e4m3) (harg3 : arg3.IsWhole) (arg4 : Memref sig .tc .vmem S56x128 .f32) (harg4 : arg4.IsWhole) (arg5 : Memref sig .tc .vmem S7168x128 .fp8e4m3) (harg5 : arg5.IsWhole) (arg6 : Memref sig .tc .vmem S14x7168 .f32) (harg6 : arg6.IsWhole) (arg7 : Memref sig .tc .vmem S14x128 .f32) (harg7 : arg7.IsWhole) (arg8 : Memref sig .tc .vmem S256x256 .fp8e4m3) (harg8 : arg8.IsWhole) (arg9 : Memref sig .tc .vmem S56x16x128 .f32) (harg9 : arg9.IsWhole) (hc0 : ¬cond0_0 i)
    (x0 : Vec F S128x7168 .bf16) (x1 : Vec F S1x7168 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_rmsnorm_fp8 i arg1 harg1 arg2 harg2 arg3 harg3 arg4 harg4 arg5 harg5 arg6 harg6 arg7 harg7 arg8 harg8 arg9 harg9) K := by
    intro E K
    simp only [cc0_rmsnorm_fp8_eq_skeleton]; unfold cc0_rmsnorm_fp8_skel
    simp only [k0_part225_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part226_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part227_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part228_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Gen

end
-- ==== Proof.KernelRunB.lean ====
module

public import proofs.«01_k».proof.Proof.KernelRunA

@[expose] public section

/-! # The float program's body, at the last point -/

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 6016000 in
/-- The body at the last point: given its input blocks, and anything in its outputs and scratch buffers, it runs to its end and
    hands the input blocks back as they were. -/
theorem kernelRun0_B (c : Dev nD) (i : grid0.Coords) (arg1 : Memref sig .tc .vmem S128x7168 .bf16) (harg1 : arg1.IsWhole) (arg2 : Memref sig .tc .vmem S1x7168 .f32) (harg2 : arg2.IsWhole) (arg3 : Memref sig .tc .vmem S128x7168 .fp8e4m3) (harg3 : arg3.IsWhole) (arg4 : Memref sig .tc .vmem S56x128 .f32) (harg4 : arg4.IsWhole) (arg5 : Memref sig .tc .vmem S7168x128 .fp8e4m3) (harg5 : arg5.IsWhole) (arg6 : Memref sig .tc .vmem S14x7168 .f32) (harg6 : arg6.IsWhole) (arg7 : Memref sig .tc .vmem S14x128 .f32) (harg7 : arg7.IsWhole) (arg8 : Memref sig .tc .vmem S256x256 .fp8e4m3) (harg8 : arg8.IsWhole) (arg9 : Memref sig .tc .vmem S56x16x128 .f32) (harg9 : arg9.IsWhole) (hc0 : cond0_0 i)
    (x0 : Vec F S128x7168 .bf16) (x1 : Vec F S1x7168 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_rmsnorm_fp8 i arg1 harg1 arg2 harg2 arg3 harg3 arg4 harg4 arg5 harg5 arg6 harg6 arg7 harg7 arg8 harg8 arg9 harg9) K := by
    intro E K
    simp only [cc0_rmsnorm_fp8_eq_skeleton]; unfold cc0_rmsnorm_fp8_skel
    simp only [k0_part225_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part226_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part227_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part228_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.lean ====
module

public import proofs.«01_k».proof.Proof.KernelRunB
public import Idealize.ShloMosaic.Lib.Claim

@[expose] public section

/-! # The float program runs to its end, its arguments unchanged -/

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The outputs (2, 3, 4, 5, 6). The frame says nothing of what the kernel leaves in them. -/
def forgets0 : Fin 7 → Bool := fun w => w.val == 2 || w.val == 3 || w.val == 4 || w.val == 5 || w.val == 6

/-- The launch on core `c`: each array as the region finds it, each input block unchanged by the body, each output block
    left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The launch's arrays are what the region finds. -/
theorem A_eq (c : Dev nD) (w : Fin cfg0.W) : (dats m 0 c).A w = V m c (Pipeline.arrRef spec0 w) := by
  dsimp only [dats]

/-- The body leaves the input blocks as they were. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- At every point the body finds each input block in its buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, buffer by buffer. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 14 := lt_of_lt_of_eq t.isLt (show cfg0.N = 14 from N_0)
  by_cases h0 : t.val % 14 = 13
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ ((hcond0_0 t).mpr h0) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ (fun h => h0 ((hcond0_0 t).mp h)) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body does what the launch asks of it, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The whole run, with every counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run: it ends, every input array is unchanged, nothing is said of the outputs. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.Setup.lean ====
module

public import proofs.«01_k».proof.Proof.Gen.KernelIdeal.Frame
public import proofs.«01_k».proof.Proof.Gen.KernelIdeal.Skeleton

@[expose] public section

/-! # What the runs of the idealized kernel's body share

The condition of the body's conditional in closed form, the staging memrefs of the seven windows, the two scratch
buffers, and the launch's invariant spelled over them. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The staging memrefs and the scratch buffers -/

/-- Each window's current staging memref at point `t`, spelled as the pipeline passes it (`bodyAt0`), and its wholeness. -/
abbrev ms0_0 (t : Fin cfg0.N) : Memref sig .tc .vmem S128x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x7168 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S7168x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S14x7168 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S14x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x256 .fp8e4m3 := Memref.whole cc0_scratch0
abbrev scM0_1 : Memref sig .tc .vmem S56x16x128 .f32 := Memref.whole cc0_scratch1

/-- What a grid step keeps beside its blocks: the two scratch buffers, at some contents, and the random state. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Step.lean ====
module

public import proofs.«01_k».proof.Proof.Setup

@[expose] public section

/-! # What one point of the kernel stores, as recursions over the 56 column groups

The body unrolls its loop over the column groups; here each of its values is named once, as a function of the
number of the group. `X k` and `G k` stand for the loads of group `k`'s columns of the block of `x` and of `gamma`. -/

set_option maxRecDepth 16384

noncomputable section

namespace Cert.KernelIdeal.Gen

open Idealize.ShloMosaic Idealize.ShloMosaic.TcCoe Idealize.ShloMosaic.Tactic

variable {F : FTy → Type} [FloatOps F] [Named F]

/-! ## The rectangles -/

theorem inbX (k : ℕ) : ∀ d, (![0, k % 56 * 128] : Fin 2 → ℕ) d + S128x128.size d ≤ S128x7168.size d := by
  have : k % 56 < 56 := Nat.mod_lt _ (by decide)
  intro d; fin_cases d <;> simp [S128x128, S128x7168] <;> omega
theorem inbG (k : ℕ) : ∀ d, (![0, k % 56 * 128] : Fin 2 → ℕ) d + S1x128.size d ≤ S1x7168.size d := by
  have : k % 56 < 56 := Nat.mod_lt _ (by decide)
  intro d; fin_cases d <;> simp [S1x128, S1x7168] <;> omega
theorem inbQ (k : ℕ) : ∀ d, (![k % 4 / 2 * 128, k % 2 * 128] : Fin 2 → ℕ) d + S128x128.size d ≤ S256x256.size d := by
  intro d; fin_cases d <;> simp [S128x128, S256x256] <;> omega
theorem inbC (k : ℕ) : ∀ d, (![k % 28 * 256, 0] : Fin 2 → ℕ) d + S256x128.size d ≤ S7168x128.size d := by
  have : k % 28 < 28 := Nat.mod_lt _ (by decide)
  intro d; fin_cases d <;> simp [S256x128, S7168x128] <;> omega
theorem inbS (k r : ℕ) (hr : r < 16) : ∀ d, (![k % 56, r, 0] : Fin 3 → ℕ) d + S1x1x128.size d ≤ S56x16x128.size d := by
  have : k % 56 < 56 := Nat.mod_lt _ (by decide)
  intro d; fin_cases d <;> simp [S1x1x128, S56x16x128] <;> omega
theorem inbT (k : ℕ) : ∀ d, (![k % 56, 0, 0] : Fin 3 → ℕ) d + S1x14x128.size d ≤ S56x16x128.size d := by
  have : k % 56 < 56 := Nat.mod_lt _ (by decide)
  intro d; fin_cases d <;> simp [S1x14x128, S56x16x128] <;> omega
theorem inbU (k : ℕ) : ∀ d, (![0, k % 56 * 128] : Fin 2 → ℕ) d + S14x128.size d ≤ S14x7168.size d := by
  have : k % 56 < 56 := Nat.mod_lt _ (by decide)
  intro d; fin_cases d <;> simp [S14x128, S14x7168] <;> omega

/-! ## The scale pair -/

/-- One step of the search: the bit `b` is kept where the value is at least the word with it. -/
def probe {s : Shape} (t : FVec F s .f32) (b : BitVec 32) (w : IVec s 32) : IVec s 32 :=
  select (cmpf .oge t (bitcastToFloat .f32 (ori w (broadcast s b)))) (ori w (broadcast s b)) w

/-- The word of the greatest power of two at most the value, by the eight steps of the search. -/
def expWord {s : Shape} (t : FVec F s .f32) : IVec s 32 :=
  probe t 8388608#32 (probe t 16777216#32 (probe t 33554432#32 (probe t 67108864#32
    (probe t 134217728#32 (probe t 268435456#32 (probe t 536870912#32 (probe t 1073741824#32 (broadcast s 0#32))))))))

/-- The exponent of the scale for the largest magnitude `a`. -/
def expo {s : Shape} (a : FVec F s .f32) : IVec s 32 :=
  have field : IVec s 32 := shrui (expWord (mulf a (broadcast s (Scalar.ofBits .f32 0x3B124925#32)))) (broadcast s 23#32)
  select (ori (cmpi .eq field (broadcast s 0#32)) (cmpi .eq field (broadcast s 255#32))) (broadcast s 0#32)
    (subi field (broadcast s 126#32))

/-- The scale, a power of two. -/
def scaleOf {s : Shape} (a : FVec F s .f32) : FVec F s .f32 :=
  bitcastToFloat .f32 (shli (addi (expo a) (broadcast s 127#32)) (broadcast s 23#32))

/-- The scale's inverse. -/
def invOf {s : Shape} (a : FVec F s .f32) : FVec F s .f32 :=
  bitcastToFloat .f32 (shli (subi (broadcast s 127#32) (expo a)) (broadcast s 23#32))

/-- The row of the second scratch buffer that a point stores, as the body computes it. -/
def rowAt (i : grid0.Coords) : ℕ := (Scalar.indexCast (BitVec.ofNat 32 (i 0).val) : Index).toNat
theorem rowAt_eq (i : grid0.Coords) : rowAt i = (i 0).val := by
  have h : (i 0).val < 14 := (i 0).isLt
  simp [rowAt, Scalar.indexCast]; omega
theorem rowAt_lt (i : grid0.Coords) : rowAt i < 16 := by
  have h : (i 0).val < 14 := (i 0).isLt
  rw [rowAt_eq]; omega

section

variable (X : ℕ → Vec F S128x128 .bf16) (G : ℕ → Vec F S1x128 .f32)

/-! ## The rows' factor -/

/-- Group `k` of the block of `x`, widened. -/
def xf (k : ℕ) : FVec F S128x128 .f32 := extf .f32 (shapeCast S128x128 (X k) shapeCasts_S128x128_S128x128) bitsLt_bf16_f32

/-- The sum of the squares of the first `k` groups, lane by lane. -/
def acc : ℕ → FVec F S128x128 .f32
  | 0 => broadcast S128x128 (Scalar.ofBits .f32 0x00000000#32)
  | k + 1 => addf (acc k) (mulf (xf X k) (xf X k))

/-- The rows' factor, one column. -/
def rs1 : FVec F S128x1 .f32 :=
  rsqrt (addf (mulf (shapeCast S128x1 (multiReduction .add [1] S128 (acc X 56) 0x00000000#32 reduces_S128x128_S128 (.inl rfl) rfl) shapeCasts_S128_S128x1)
      (broadcast S128x1 (Named.named κ "inv_d" 0x39124925#32)))
    (broadcast S128x1 (Scalar.ofBits .f32 0x3727C5AC#32)))

/-- The rows' factor, along the lanes. -/
def rsb : FVec F S128x128 .f32 := broadcastTo S128x128 (shapeCast S128x1 (rs1 X) shapeCasts_S128x1_S128x1) broadcasts_S128x1_S128x128

/-! ## The groups -/

/-- Group `k` of the normalised block. -/
def yv (k : ℕ) : FVec F S128x128 .f32 :=
  mulf (mulf (xf X k) (rsb X)) (broadcastTo S128x128 (shapeCast S1x128 (G k) shapeCasts_S1x128_S1x128) broadcasts_S1x128_S128x128)

/-- The largest magnitude of each row of group `k`. -/
def aRow (k : ℕ) : FVec F S128x1 .f32 :=
  shapeCast S128x1 (multiReduction .maximumf [1] S128 (absf (yv X G k)) 0xFF800000#32 reduces_S128x128_S128 (.inl rfl) rfl) shapeCasts_S128_S128x1

/-- The largest magnitude of each column of group `k`. -/
def aCol (k : ℕ) : FVec F S1x128 .f32 :=
  shapeCast S1x128 (multiReduction .maximumf [0] S128 (absf (yv X G k)) 0xFF800000#32 reduces_S128x128_S128_2 (.inl rfl) rfl) shapeCasts_S128_S1x128

/-- The codes from a group and the factors' inverses. -/
def codes (v w : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32)) (mulf v w))) bitsLt_fp8e4m3_f32

/-- The codes of group `k` by rows. -/
def cRow (k : ℕ) : FVec F S128x128 .fp8e4m3 :=
  codes (yv X G k) (broadcastTo S128x128 (invOf (aRow X G k)) broadcasts_S128x1_S128x128)

/-- The codes of group `k` by columns. -/
def cCol (k : ℕ) : FVec F S128x128 .fp8e4m3 :=
  codes (yv X G k) (broadcastTo S128x128 (invOf (aCol X G k)) broadcasts_S1x128_S128x128)

/-- The rows' largest magnitudes of the first `k` groups, group `j`'s in lane `j`. -/
def amax : ℕ → FVec F S128x128 .f32
  | 0 => broadcast S128x128 (Scalar.ofBits .f32 0x00000000#32)
  | k + 1 => select (cmpi .eq (iota .tc S128x128 32 [1] iota_S128x128_d1_w32) (broadcast S128x128 (BitVec.ofNat 32 k)))
      (broadcastTo S128x128 (shapeCast S128x1 (aRow X G k) shapeCasts_S128x1_S128x1) broadcasts_S128x1_S128x128) (amax k)

/-- The rows' scales, transposed. -/
def rowScales : FVec F S56x128 .f32 :=
  extractStridedSlice S56x128 ![0, 0] (transpose S128x128 [1, 0] (scaleOf (amax X G 56)) transposes_S128x128_p1_0_S128x128) slices_S128x128_o0_0_S56x128

/-- The rows' factor as one row. -/
def rsRow : FVec F S1x128 .f32 :=
  extractStridedSlice S1x128 ![0, 0] (transpose S128x128 [1, 0] (rsb X) transposes_S128x128_p1_0_S128x128) slices_S128x128_o0_0_S1x128

/-! ## The stores -/

/-- The stores of the first `n` groups' row codes, last first. -/
def pcs2 : ℕ → List (View.Piece (Elt F) S128x7168 .fp8e4m3)
  | 0 => []
  | n + 1 => ⟨Rect.unit ![0, n % 56 * 128] S128x128.size (inbX n), cRow X G n⟩ :: pcs2 n

/-- The stores of the first `n` groups' column codes in the scratch tile, last first. -/
def pcsQ : ℕ → List (View.Piece (Elt F) S256x256 .fp8e4m3)
  | 0 => []
  | n + 1 => ⟨Rect.unit ![n % 4 / 2 * 128, n % 2 * 128] S128x128.size (inbQ n), shapeCast S128x128 (cCol X G n) shapeCasts_S128x128_S128x128⟩ :: pcsQ n

/-- The stores of the first `n` groups' column scales in row `r` of the scratch buffer, last first. -/
def pcsS (r : ℕ) (hr : r < 16) : ℕ → List (View.Piece (Elt F) S56x16x128 .f32)
  | 0 => []
  | n + 1 => ⟨Rect.unit ![n % 56, r, 0] S1x1x128.size (inbS n r hr), shapeCast S1x1x128 (scaleOf (aCol X G n)) shapeCasts_S1x128_S1x1x128⟩ :: pcsS r hr n

/-- The copies of the first `n` groups' column scales, `T k` the load of group `k`'s, last first. -/
def pcs5 (T : ℕ → Vec F S1x14x128 .f32) : ℕ → List (View.Piece (Elt F) S14x7168 .f32)
  | 0 => []
  | n + 1 => ⟨Rect.unit ![0, n % 56 * 128] S14x128.size (inbU n), shapeCast S14x128 (T n) shapeCasts_S1x14x128_S14x128⟩ :: pcs5 T n

/-- The transpose of a tile by a product with the identity. -/
def turn (q : FVec F S256x256 .fp8e4m3) : FVec F S256x256 .fp8e4m3 :=
  truncf .fp8e4m3 (matmul dot_S256x256_S256x256_S256x256_1_1_0_0_n_n none k0_pay68 q (constant S256x256 .f32 0x00000000#32)) bitsLt_fp8e4m3_f32

variable (arg8 : Memref sig .tc .vmem S256x256 .fp8e4m3)

/-- The transposed tile of the four groups from `4 * k`. -/
def tile (k : ℕ) : FVec F S256x256 .fp8e4m3 :=
  turn (arg8.view.readCov (pcsQ X G (4 * (k + 1))) (Rect.unit ![0, 0] S256x256.size inb_S256x256_S256x256_0_0).toLoadRect)

/-- The stores of the column codes of the first `n` tiles, last first. -/
def pcs4 : ℕ → List (View.Piece (Elt F) S7168x128 .fp8e4m3)
  | 0 => []
  | n + 1 => ⟨Rect.unit ![(2 * n + 1) % 28 * 256, 0] S256x128.size (inbC (2 * n + 1)), extractStridedSlice S256x128 ![0, 128] (tile X G arg8 n) slices_S256x256_o0_128_S256x128⟩ ::
      ⟨Rect.unit ![(2 * n) % 28 * 256, 0] S256x128.size (inbC (2 * n)), extractStridedSlice S256x128 ![0, 0] (tile X G arg8 n) slices_S256x256_o0_0_S256x128⟩ :: pcs4 n

end

/-! ## The loads -/

/-- The load of group `k`'s columns of the block of `x`. -/
def ldX (arg1 : Memref sig .tc .vmem S128x7168 .bf16) (harg1 : arg1.IsWhole) (x0 : Vec F S128x7168 .bf16) (k : ℕ) : Vec F S128x128 .bf16 :=
  View.readAt (Elt F) arg1.view (Rect.unit (s := S128x7168) ![0, k % 56 * 128] S128x128.size (inbX k)).toLoadRect (harg1.unread x0)

/-- The load of group `k`'s columns of `gamma`. -/
def ldG (arg2 : Memref sig .tc .vmem S1x7168 .f32) (harg2 : arg2.IsWhole) (x1 : Vec F S1x7168 .f32) (k : ℕ) : Vec F S1x128 .f32 :=
  View.readAt (Elt F) arg2.view (Rect.unit (s := S1x7168) ![0, k % 56 * 128] S1x128.size (inbG k)).toLoadRect (harg2.unread x1)

end Cert.KernelIdeal.Gen

end
-- ==== Proof.RunA.lean ====
module

public import proofs.«01_k».proof.Proof.Setup

@[expose] public section

/-! # The body's run, before the last point -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

set_option maxHeartbeats 8000000 in
/-- The body's run at a point other than the last, where window 5's buffer is left as it was: the pieces
    that its stores leave in each output's buffer and in the second scratch buffer (last first), with the proof that
    from the inputs' buffers at `x0` and `x1`, window 6's buffer at `d6` and the second scratch buffer at `s1`, the
    body runs to these pieces written. -/
noncomputable def runA (c : Dev nD) (i : grid0.Coords) (arg1 : Memref sig .tc .vmem S128x7168 .bf16) (harg1 : arg1.IsWhole) (arg2 : Memref sig .tc .vmem S1x7168 .f32) (harg2 : arg2.IsWhole) (arg3 : Memref sig .tc .vmem S128x7168 .fp8e4m3) (harg3 : arg3.IsWhole) (arg4 : Memref sig .tc .vmem S56x128 .f32) (harg4 : arg4.IsWhole) (arg5 : Memref sig .tc .vmem S7168x128 .fp8e4m3) (harg5 : arg5.IsWhole) (arg6 : Memref sig .tc .vmem S14x7168 .f32) (harg6 : arg6.IsWhole) (arg7 : Memref sig .tc .vmem S14x128 .f32) (harg7 : arg7.IsWhole) (arg8 : Memref sig .tc .vmem S256x256 .fp8e4m3) (harg8 : arg8.IsWhole) (arg9 : Memref sig .tc .vmem S56x16x128 .f32) (harg9 : arg9.IsWhole) (hc0 : ¬cond0_0 i)
    (x0 : Vec F S128x7168 .bf16) (x1 : Vec F S1x7168 .f32) (d5 : Vec F S14x7168 .f32) (d6 : Vec F S14x128 .f32) (s1 : Vec F S56x16x128 .f32) :
    Σ' (L2 : List (View.Piece (Elt F) S128x7168 .fp8e4m3)), Σ' (L3 : List (View.Piece (Elt F) S56x128 .f32)), Σ' (L4 : List (View.Piece (Elt F) S7168x128 .fp8e4m3)), Σ' (L6 : List (View.Piece (Elt F) S14x128 .f32)), {LS : List (View.Piece (Elt F) S56x16x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare d5 ∗ owns (c : Thread nD τ) arg7 fullShare d6 ∗ (∃ d, owns (c : Thread nD τ) arg8 fullShare d) ∗ owns (c : Thread nD τ) arg9 fullShare s1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare d5 ∗ (arg7.view.loc (c : Thread nD τ) ↦[arg7.view.set]{fullShare} arg7.view.writes (Elt F) (harg7.unread d6) L6) ∗ (∃ d, owns (c : Thread nD τ) arg8 fullShare d) ∗ (arg9.view.loc (c : Thread nD τ) ↦[arg9.view.set]{fullShare} arg9.view.writes (Elt F) (harg9.unread s1) LS)) -∗ K ⟨⟩))
          ⊢ wp frame (wpE (defs₀ (F := F)) Variants.none c none) E (cc0_rmsnorm_fp8 i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_rmsnorm_fp8_eq_skeleton]; unfold cc0_rmsnorm_fp8_skel
    simp only [k0_part225_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part226_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part227_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part228_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, ⟨%ds0, %fs0, -, HS0⟩, ⟨%fs1, %hfs1, HS1⟩, Hk⟩
    obtain rfl := harg1.eq_unread hf0; obtain rfl := harg2.eq_unread hf1
    obtain rfl := harg7.eq_unread hf6; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]
    · iexists _; isplitr; swap; · iexact H5
      ipureintro; exact hf5
    isplitl [H6]; · iexact H6
    isplitl [HS0]
    · iexists _, _; isplitr; swap; · iexact HS0
      ipureintro; rfl
    iexact HS1

end Cert.KernelIdeal.Gen

end
-- ==== Proof.EqA.lean ====
module

public import proofs.«01_k».proof.Proof.Step
public import proofs.«01_k».proof.Proof.RunA

@[expose] public section

/-! # The run's pieces, before the last point, are the recursions' -/

set_option maxRecDepth 16384

noncomputable section

namespace Cert.KernelIdeal.Gen

open Idealize.ShloMosaic Idealize.ShloMosaic.TcCoe Idealize.ShloMosaic.Tactic

variable {F : FTy → Type} [FloatOps F] [Named F]

section
variable (c : Dev nD) (i : grid0.Coords) (arg1 : Memref sig .tc .vmem S128x7168 .bf16) (harg1 : arg1.IsWhole) (arg2 : Memref sig .tc .vmem S1x7168 .f32) (harg2 : arg2.IsWhole) (arg3 : Memref sig .tc .vmem S128x7168 .fp8e4m3) (harg3 : arg3.IsWhole) (arg4 : Memref sig .tc .vmem S56x128 .f32) (harg4 : arg4.IsWhole) (arg5 : Memref sig .tc .vmem S7168x128 .fp8e4m3) (harg5 : arg5.IsWhole) (arg6 : Memref sig .tc .vmem S14x7168 .f32) (harg6 : arg6.IsWhole) (arg7 : Memref sig .tc .vmem S14x128 .f32) (harg7 : arg7.IsWhole) (arg8 : Memref sig .tc .vmem S256x256 .fp8e4m3) (harg8 : arg8.IsWhole) (arg9 : Memref sig .tc .vmem S56x16x128 .f32) (harg9 : arg9.IsWhole) (hc0 : ¬cond0_0 i)
    (x0 : Vec F S128x7168 .bf16) (x1 : Vec F S1x7168 .f32) (d5 : Vec F S14x7168 .f32) (d6 : Vec F S14x128 .f32) (s1 : Vec F S56x16x128 .f32)

theorem runA_rc : (runA c i arg1 harg1 arg2 harg2 arg3 harg3 arg4 harg4 arg5 harg5 arg6 harg6 arg7 harg7 arg8 harg8 arg9 harg9 hc0 x0 x1 d5 d6 s1).1
    = pcs2 (ldX arg1 harg1 x0) (ldG arg2 harg2 x1) 56 := by sl_kernel_rfl

theorem runA_rst : (runA c i arg1 harg1 arg2 harg2 arg3 harg3 arg4 harg4 arg5 harg5 arg6 harg6 arg7 harg7 arg8 harg8 arg9 harg9 hc0 x0 x1 d5 d6 s1).2.1
    = [⟨Rect.unit ![0, 0] S56x128.size inb_S56x128_S56x128_0_0, rowScales (ldX arg1 harg1 x0) (ldG arg2 harg2 x1)⟩] := by sl_kernel_rfl

theorem runA_cc : (runA c i arg1 harg1 arg2 harg2 arg3 harg3 arg4 harg4 arg5 harg5 arg6 harg6 arg7 harg7 arg8 harg8 arg9 harg9 hc0 x0 x1 d5 d6 s1).2.2.1
    = pcs4 (ldX arg1 harg1 x0) (ldG arg2 harg2 x1) arg8 14 := by sl_kernel_rfl

theorem runA_rsig : (runA c i arg1 harg1 arg2 harg2 arg3 harg3 arg4 harg4 arg5 harg5 arg6 harg6 arg7 harg7 arg8 harg8 arg9 harg9 hc0 x0 x1 d5 d6 s1).2.2.2.1
    = [⟨Rect.unit (k0_off1 i) S1x128.size (k0_off1_inb i), rsRow (ldX arg1 harg1 x0)⟩] := by sl_kernel_rfl

theorem runA_cs : (runA c i arg1 harg1 arg2 harg2 arg3 harg3 arg4 harg4 arg5 harg5 arg6 harg6 arg7 harg7 arg8 harg8 arg9 harg9 hc0 x0 x1 d5 d6 s1).2.2.2.2.1
    = pcsS (ldX arg1 harg1 x0) (ldG arg2 harg2 x1) (rowAt i) (rowAt_lt i) 56 := by sl_kernel_rfl

end

end Cert.KernelIdeal.Gen

end
-- ==== Proof.RunB.lean ====
module

public import proofs.«01_k».proof.Proof.RunA

@[expose] public section

/-! # The body's run, at the last point -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

set_option maxHeartbeats 8000000 in
/-- The body's run at the last point, where the column steps collected in the second scratch buffer are copied out to window 5: the pieces
    that its stores leave in each output's buffer and in the second scratch buffer (last first), with the proof that
    from the inputs' buffers at `x0` and `x1`, window 6's buffer at `d6` and the second scratch buffer at `s1`, the
    body runs to these pieces written. -/
noncomputable def runB (c : Dev nD) (i : grid0.Coords) (arg1 : Memref sig .tc .vmem S128x7168 .bf16) (harg1 : arg1.IsWhole) (arg2 : Memref sig .tc .vmem S1x7168 .f32) (harg2 : arg2.IsWhole) (arg3 : Memref sig .tc .vmem S128x7168 .fp8e4m3) (harg3 : arg3.IsWhole) (arg4 : Memref sig .tc .vmem S56x128 .f32) (harg4 : arg4.IsWhole) (arg5 : Memref sig .tc .vmem S7168x128 .fp8e4m3) (harg5 : arg5.IsWhole) (arg6 : Memref sig .tc .vmem S14x7168 .f32) (harg6 : arg6.IsWhole) (arg7 : Memref sig .tc .vmem S14x128 .f32) (harg7 : arg7.IsWhole) (arg8 : Memref sig .tc .vmem S256x256 .fp8e4m3) (harg8 : arg8.IsWhole) (arg9 : Memref sig .tc .vmem S56x16x128 .f32) (harg9 : arg9.IsWhole) (hc0 : cond0_0 i)
    (x0 : Vec F S128x7168 .bf16) (x1 : Vec F S1x7168 .f32) (d6 : Vec F S14x128 .f32) (s1 : Vec F S56x16x128 .f32) :
    Σ' (L2 : List (View.Piece (Elt F) S128x7168 .fp8e4m3)), Σ' (L3 : List (View.Piece (Elt F) S56x128 .f32)), Σ' (L4 : List (View.Piece (Elt F) S7168x128 .fp8e4m3)), Σ' (L5 : List (View.Piece (Elt F) S14x7168 .f32)), Σ' (L6 : List (View.Piece (Elt F) S14x128 .f32)), {LS : List (View.Piece (Elt F) S56x16x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare d6 ∗ (∃ d, owns (c : Thread nD τ) arg8 fullShare d) ∗ owns (c : Thread nD τ) arg9 fullShare s1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread d6) L6) ∗ (∃ d, owns (c : Thread nD τ) arg8 fullShare d) ∗ (arg9.view.loc (c : Thread nD τ) ↦[arg9.view.set]{fullShare} arg9.view.writes (Elt F) (harg9.unread s1) LS)) -∗ K ⟨⟩))
          ⊢ wp frame (wpE (defs₀ (F := F)) Variants.none c none) E (cc0_rmsnorm_fp8 i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_rmsnorm_fp8_eq_skeleton]; unfold cc0_rmsnorm_fp8_skel
    simp only [k0_part225_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part226_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part227_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part228_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%f6, %hf6, H6⟩, ⟨%ds0, %fs0, -, HS0⟩, ⟨%fs1, %hfs1, HS1⟩, Hk⟩
    obtain rfl := harg1.eq_unread hf0; obtain rfl := harg2.eq_unread hf1
    obtain rfl := harg7.eq_unread hf6; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]
    · iexists _; iexact H5
    isplitl [H6]; · iexact H6
    isplitl [HS0]
    · iexists _, _; isplitr; swap; · iexact HS0
      ipureintro; rfl
    iexact HS1

end Cert.KernelIdeal.Gen

end
-- ==== Proof.EqB.lean ====
module

public import proofs.«01_k».proof.Proof.Step
public import proofs.«01_k».proof.Proof.RunB

@[expose] public section

/-! # The run's pieces, at the last point, are the recursions' -/

set_option maxRecDepth 16384

noncomputable section

namespace Cert.KernelIdeal.Gen

open Idealize.ShloMosaic Idealize.ShloMosaic.TcCoe Idealize.ShloMosaic.Tactic

variable {F : FTy → Type} [FloatOps F] [Named F]

section
variable (c : Dev nD) (i : grid0.Coords) (arg1 : Memref sig .tc .vmem S128x7168 .bf16) (harg1 : arg1.IsWhole) (arg2 : Memref sig .tc .vmem S1x7168 .f32) (harg2 : arg2.IsWhole) (arg3 : Memref sig .tc .vmem S128x7168 .fp8e4m3) (harg3 : arg3.IsWhole) (arg4 : Memref sig .tc .vmem S56x128 .f32) (harg4 : arg4.IsWhole) (arg5 : Memref sig .tc .vmem S7168x128 .fp8e4m3) (harg5 : arg5.IsWhole) (arg6 : Memref sig .tc .vmem S14x7168 .f32) (harg6 : arg6.IsWhole) (arg7 : Memref sig .tc .vmem S14x128 .f32) (harg7 : arg7.IsWhole) (arg8 : Memref sig .tc .vmem S256x256 .fp8e4m3) (harg8 : arg8.IsWhole) (arg9 : Memref sig .tc .vmem S56x16x128 .f32) (harg9 : arg9.IsWhole) (hc0 : cond0_0 i)
    (x0 : Vec F S128x7168 .bf16) (x1 : Vec F S1x7168 .f32) (d6 : Vec F S14x128 .f32) (s1 : Vec F S56x16x128 .f32)

theorem runB_rc : (runB c i arg1 harg1 arg2 harg2 arg3 harg3 arg4 harg4 arg5 harg5 arg6 harg6 arg7 harg7 arg8 harg8 arg9 harg9 hc0 x0 x1 d6 s1).1
    = pcs2 (ldX arg1 harg1 x0) (ldG arg2 harg2 x1) 56 := by sl_kernel_rfl

theorem runB_rst : (runB c i arg1 harg1 arg2 harg2 arg3 harg3 arg4 harg4 arg5 harg5 arg6 harg6 arg7 harg7 arg8 harg8 arg9 harg9 hc0 x0 x1 d6 s1).2.1
    = [⟨Rect.unit ![0, 0] S56x128.size inb_S56x128_S56x128_0_0, rowScales (ldX arg1 harg1 x0) (ldG arg2 harg2 x1)⟩] := by sl_kernel_rfl

theorem runB_cc : (runB c i arg1 harg1 arg2 harg2 arg3 harg3 arg4 harg4 arg5 harg5 arg6 harg6 arg7 harg7 arg8 harg8 arg9 harg9 hc0 x0 x1 d6 s1).2.2.1
    = pcs4 (ldX arg1 harg1 x0) (ldG arg2 harg2 x1) arg8 14 := by sl_kernel_rfl

theorem runB_cst : (runB c i arg1 harg1 arg2 harg2 arg3 harg3 arg4 harg4 arg5 harg5 arg6 harg6 arg7 harg7 arg8 harg8 arg9 harg9 hc0 x0 x1 d6 s1).2.2.2.1
    = pcs5 (fun k => View.readAt (Elt F) arg9.view (Rect.unit (s := S56x16x128) ![k % 56, 0, 0] S1x14x128.size (inbT k)).toLoadRect (arg9.view.writes (Elt F) (harg9.unread s1) (pcsS (ldX arg1 harg1 x0) (ldG arg2 harg2 x1) (rowAt i) (rowAt_lt i) 56))) 56 := by sl_kernel_rfl

theorem runB_rsig : (runB c i arg1 harg1 arg2 harg2 arg3 harg3 arg4 harg4 arg5 harg5 arg6 harg6 arg7 harg7 arg8 harg8 arg9 harg9 hc0 x0 x1 d6 s1).2.2.2.2.1
    = [⟨Rect.unit (k0_off1 i) S1x128.size (k0_off1_inb i), rsRow (ldX arg1 harg1 x0)⟩] := by sl_kernel_rfl

theorem runB_cs : (runB c i arg1 harg1 arg2 harg2 arg3 harg3 arg4 harg4 arg5 harg5 arg6 harg6 arg7 harg7 arg8 harg8 arg9 harg9 hc0 x0 x1 d6 s1).2.2.2.2.2.1
    = pcsS (ldX arg1 harg1 x0) (ldG arg2 harg2 x1) (rowAt i) (rowAt_lt i) 56 := by sl_kernel_rfl

end

end Cert.KernelIdeal.Gen

end
-- ==== Proof.Contents.lean ====
module

public import proofs.«01_k».proof.Proof.Step
public import Idealize.ShloMosaic.Lib.Pointwise
public import Idealize.ShloMosaic.Lib.WritesUnit
public import Idealize.ShloMosaic.Lib.Writes
public import Idealize.ShloMosaic.Lib.VecWindow
public import Idealize.ShloMosaic.Lib.WholeRead

@[expose] public section

/-! # What the buffers hold after one point's stores -/

set_option maxRecDepth 16384

noncomputable section

namespace Cert.KernelIdeal.Gen

open Idealize.ShloMosaic Idealize.ShloMosaic.TcCoe Idealize.ShloMosaic.Tactic

variable {F : FTy → Type} [FloatOps F] [Named F]

variable (X : ℕ → Vec F S128x128 .bf16) (G : ℕ → Vec F S1x128 .f32)

/-! ## The codes by rows -/

/-- The block of row codes. -/
def O2 : Vec F S128x7168 .fp8e4m3 := fun y =>
  cRow X G ((y 1).val / 128) (ix2 (n0 := 128) (n1 := 128) (y 0) ⟨(y 1).val % 128, Nat.mod_lt _ (by decide)⟩)

theorem read_pcs2 (arg3 : Memref sig .tc .vmem S128x7168 .fp8e4m3) (f) (n : ℕ) (hn : n ≤ 56) (y : S128x7168.Idx) (hy : (y 1).val < n * 128) :
    arg3.view.read (Elt F) (arg3.view.writes (Elt F) f (pcs2 X G n)) y = O2 X G y := by
  induction n with
  | zero => omega
  | succ n ih =>
    by_cases h : (y 1).val < n * 128
    · refine (View.read_writes_cons_unit_of_not_mem (s := S128x7168) _ f (off' := ![0, n * 128]) (size := S128x128.size) _ _ _ y (by rw [Nat.mod_eq_of_lt (by omega)]) 1 (Or.inl h)).trans (ih (by omega) h)
    · have e : (y 1).val / 128 = n := by omega
      rw [O2, e]
      refine View.read_writes_cons_unit_of_mem (s := S128x7168) _ f (off' := ![0, n * 128]) (size := S128x128.size) _ _ _ y
        (ix2 (n0 := 128) (n1 := 128) (y 0) ⟨(y 1).val % 128, Nat.mod_lt _ (by decide)⟩) (by rw [Nat.mod_eq_of_lt (by omega)]) (fun a => ?_)
      fin_cases a
      · exact (Nat.zero_add _).symm
      · show (y 1).val = n * 128 + (y 1).val % 128
        omega

theorem out2 (arg3 : Memref sig .tc .vmem S128x7168 .fp8e4m3) (f) :
    arg3.view.read (Elt F) (arg3.view.writes (Elt F) f (pcs2 X G 56)) = O2 X G :=
  funext fun y => read_pcs2 X G arg3 f 56 le_rfl y (y 1).isLt

/-! ## The row scales and the rows' factor -/

theorem out3 (arg4 : Memref sig .tc .vmem S56x128 .f32) (f) :
    arg4.view.read (Elt F) (arg4.view.writes (Elt F) f [⟨Rect.unit ![0, 0] S56x128.size inb_S56x128_S56x128_0_0, rowScales X G⟩]) = rowScales X G :=
  View.read_writes_full _ f _ _ _

/-- The rows' factors with row `r` replaced. -/
def O6 (r : ℕ) (d : Vec F S14x128 .f32) : Vec F S14x128 .f32 := fun y =>
  if (y 0).val = r then rsRow X (ix2 (n0 := 1) (n1 := 128) 0 (y 1)) else d y

theorem out6 (i : grid0.Coords) (arg7 : Memref sig .tc .vmem S14x128 .f32) (harg7 : arg7.IsWhole) (d : Vec F S14x128 .f32) :
    arg7.view.read (Elt F) (arg7.view.writes (Elt F) (harg7.unread d) [⟨Rect.unit (k0_off1 i) S1x128.size (k0_off1_inb i), rsRow X⟩]) = O6 X (rowAt i) d := by
  funext y
  unfold O6
  split
  · rename_i h
    refine View.read_writes_cons_unit_of_mem (s := S14x128) _ _ (off' := ![rowAt i, 0]) (size := S1x128.size) _ _ _ y
        (ix2 (n0 := 1) (n1 := 128) 0 (y 1)) rfl (fun a => ?_)
    fin_cases a
    · exact h
    · exact (Nat.zero_add _).symm
  · rename_i h
    refine (View.read_writes_cons_unit_of_not_mem (s := S14x128) _ _ (off' := ![rowAt i, 0]) (size := S1x128.size) _ _ _ y rfl 0 ?_).trans ?_
    · show (y 0).val < rowAt i ∨ rowAt i + 1 ≤ (y 0).val
      omega
    · rw [View.writes_nil, harg7.read_unread]

/-! ## The column scales -/

/-- The second scratch buffer with the first `n` groups' scales put in row `r`. -/
def OS (r n : ℕ) (d : Vec F S56x16x128 .f32) : Vec F S56x16x128 .f32 := fun y =>
  if (y 1).val = r ∧ (y 0).val < n then scaleOf (aCol X G (y 0).val) (ix2 (n0 := 1) (n1 := 128) 0 (y 2)) else d y

theorem outS (r : ℕ) (hr : r < 16) (arg9 : Memref sig .tc .vmem S56x16x128 .f32) (harg9 : arg9.IsWhole) (d : Vec F S56x16x128 .f32) (n : ℕ) (hn : n ≤ 56) :
    arg9.view.read (Elt F) (arg9.view.writes (Elt F) (harg9.unread d) (pcsS X G r hr n)) = OS X G r n d := by
  funext y
  induction n with
  | zero =>
    unfold OS
    rw [if_neg (by omega)]
    exact congrFun (harg9.read_unread d) y
  | succ n ih =>
    by_cases h : (y 1).val = r ∧ (y 0).val = n
    · rw [OS, if_pos (by omega), h.2]
      refine (View.read_writes_cons_unit_of_mem (s := S56x16x128) _ _ (off' := ![n, r, 0]) (size := S1x1x128.size) _ _ _ y
        (ix3 (n0 := 1) (n1 := 1) (n2 := 128) 0 0 (y 2)) (by rw [Nat.mod_eq_of_lt (by omega)]) (fun a => ?_)).trans ?_
      · fin_cases a
        · exact h.2
        · exact h.1
        · exact (Nat.zero_add _).symm
      · pointwise
    · have e : OS X G r (n + 1) d y = OS X G r n d y := by
        unfold OS
        by_cases h' : (y 1).val = r ∧ (y 0).val < n
        · rw [if_pos h', if_pos (by omega)]
        · rw [if_neg h', if_neg (by omega)]
      rw [e, ← ih (by omega)]
      by_cases h1 : (y 1).val = r
      · refine View.read_writes_cons_unit_of_not_mem (s := S56x16x128) _ _ (off' := ![n, r, 0]) (size := S1x1x128.size) _ _ _ y (by rw [Nat.mod_eq_of_lt (by omega)]) 0 ?_
        show (y 0).val < n ∨ n + 1 ≤ (y 0).val
        omega
      · refine View.read_writes_cons_unit_of_not_mem (s := S56x16x128) _ _ (off' := ![n, r, 0]) (size := S1x1x128.size) _ _ _ y (by rw [Nat.mod_eq_of_lt (by omega)]) 1 ?_
        show (y 1).val < r ∨ r + 1 ≤ (y 1).val
        omega

/-- The column scales copied from the second scratch buffer. -/
def O5 (d : Vec F S56x16x128 .f32) : Vec F S14x7168 .f32 := fun y =>
  d (ix3 (n0 := 56) (n1 := 16) (n2 := 128) ⟨(y 1).val / 128, by have : (y 1).val < 7168 := (y 1).isLt; omega⟩
    ⟨(y 0).val, by have : (y 0).val < 14 := (y 0).isLt; omega⟩ ⟨(y 1).val % 128, Nat.mod_lt _ (by decide)⟩)

theorem read_pcs5 (arg9 : Memref sig .tc .vmem S56x16x128 .f32) (g) (arg6 : Memref sig .tc .vmem S14x7168 .f32) (f) (n : ℕ) (hn : n ≤ 56)
    (y : S14x7168.Idx) (hy : (y 1).val < n * 128) :
    arg6.view.read (Elt F) (arg6.view.writes (Elt F) f (pcs5 (fun k => View.readAt (Elt F) arg9.view (Rect.unit (s := S56x16x128) ![k % 56, 0, 0] S1x14x128.size (inbT k)).toLoadRect g) n)) y
      = O5 (arg9.view.read (Elt F) g) y := by
  induction n with
  | zero => omega
  | succ n ih =>
    by_cases h : (y 1).val < n * 128
    · refine (View.read_writes_cons_unit_of_not_mem (s := S14x7168) _ f (off' := ![0, n * 128]) (size := S14x128.size) _ _ _ y (by rw [Nat.mod_eq_of_lt (by omega)]) 1 (Or.inl h)).trans (ih (by omega) h)
    · have e : (y 1).val / 128 = n := by omega
      refine (View.read_writes_cons_unit_of_mem (s := S14x7168) _ f (off' := ![0, n * 128]) (size := S14x128.size) _ _ _ y
        (ix2 (n0 := 14) (n1 := 128) (y 0) ⟨(y 1).val % 128, Nat.mod_lt _ (by decide)⟩) (by rw [Nat.mod_eq_of_lt (by omega)]) (fun a => ?_)).trans ?_
      · fin_cases a
        · exact (Nat.zero_add _).symm
        · show (y 1).val = n * 128 + (y 1).val % 128
          omega
      · pointwise
        unfold O5
        refine congrArg (arg9.view.read (Elt F) g) (funext fun a => Fin.ext ?_)
        have := Nat.mod_eq_of_lt (show n < 56 by omega)
        fin_cases a <;> simp [e, this, LoadRect.idx] <;> rfl

theorem out5 (arg9 : Memref sig .tc .vmem S56x16x128 .f32) (g) (arg6 : Memref sig .tc .vmem S14x7168 .f32) (f) :
    arg6.view.read (Elt F) (arg6.view.writes (Elt F) f (pcs5 (fun k => View.readAt (Elt F) arg9.view (Rect.unit (s := S56x16x128) ![k % 56, 0, 0] S1x14x128.size (inbT k)).toLoadRect g) 56))
      = O5 (arg9.view.read (Elt F) g) :=
  funext fun y => read_pcs5 arg9 g arg6 f 56 le_rfl y (y 1).isLt

/-! ## The codes by columns -/

/-- The scratch tile of the four groups from `4 * k`. -/
def Qv (k : ℕ) : Vec F S256x256 .fp8e4m3 := fun y =>
  cCol X G (4 * k + (y 0).val / 128 * 2 + (y 1).val / 128)
    (ix2 (n0 := 128) (n1 := 128) ⟨(y 0).val % 128, Nat.mod_lt _ (by decide)⟩ ⟨(y 1).val % 128, Nat.mod_lt _ (by decide)⟩)

theorem readCov_pcsQ (arg8 : Memref sig .tc .vmem S256x256 .fp8e4m3) (k : ℕ) :
    arg8.view.readCov (pcsQ X G (4 * (k + 1))) (Rect.unit ![0, 0] S256x256.size inb_S256x256_S256x256_0_0).toLoadRect = Qv X G k := by
  funext y
  have h0 : (y 0).val < 256 := (y 0).isLt
  have h1 : (y 1).val < 256 := (y 1).isLt
  have step : ∀ (n a b : ℕ) (L : List (View.Piece (Elt F) S256x256 .fp8e4m3)) (g), n % 4 / 2 = a → n % 2 = b →
      (n = 4 * k + a * 2 + b) →
      ((y 0).val / 128 = a → (y 1).val / 128 = b → arg8.view.read (Elt F) (arg8.view.writes (Elt F) g
        (⟨Rect.unit ![n % 4 / 2 * 128, n % 2 * 128] S128x128.size (inbQ n), shapeCast S128x128 (cCol X G n) shapeCasts_S128x128_S128x128⟩ :: L)) y = Qv X G k y)
      ∧ (¬((y 0).val / 128 = a ∧ (y 1).val / 128 = b) → arg8.view.read (Elt F) (arg8.view.writes (Elt F) g
        (⟨Rect.unit ![n % 4 / 2 * 128, n % 2 * 128] S128x128.size (inbQ n), shapeCast S128x128 (cCol X G n) shapeCasts_S128x128_S128x128⟩ :: L)) y
          = arg8.view.read (Elt F) (arg8.view.writes (Elt F) g L) y) := by
    intro n a b L g ha hb hn
    refine ⟨fun ea eb => ?_, fun hne => ?_⟩
    · refine (View.read_writes_cons_unit_of_mem (s := S256x256) _ _ (off' := ![a * 128, b * 128]) (size := S128x128.size) _ _ _ y
        (ix2 (n0 := 128) (n1 := 128) ⟨(y 0).val % 128, Nat.mod_lt _ (by decide)⟩ ⟨(y 1).val % 128, Nat.mod_lt _ (by decide)⟩) (by rw [ha, hb]) (fun d => ?_)).trans ?_
      · fin_cases d
        · show (y 0).val = a * 128 + (y 0).val % 128
          omega
        · show (y 1).val = b * 128 + (y 1).val % 128
          omega
      · unfold Qv
        rw [ea, eb, ← hn]
        pointwise
    · by_cases h : (y 0).val / 128 = a
      · refine View.read_writes_cons_unit_of_not_mem (s := S256x256) _ _ (off' := ![a * 128, b * 128]) (size := S128x128.size) _ _ _ y (by rw [ha, hb]) 1 ?_
        show (y 1).val < b * 128 ∨ b * 128 + 128 ≤ (y 1).val
        omega
      · refine View.read_writes_cons_unit_of_not_mem (s := S256x256) _ _ (off' := ![a * 128, b * 128]) (size := S128x128.size) _ _ _ y (by rw [ha, hb]) 0 ?_
        show (y 0).val < a * 128 ∨ a * 128 + 128 ≤ (y 0).val
        omega
  have ey : (Rect.unit (s := S256x256) ![0, 0] S256x256.size inb_S256x256_S256x256_0_0).toLoadRect.idx y = y := by
    funext a
    refine Fin.ext ?_
    fin_cases a <;> simp [LoadRect.idx] <;> rfl
  show arg8.view.read (Elt F) (arg8.view.writes (Elt F) _ (pcsQ X G (4 * (k + 1)))) ((Rect.unit (s := S256x256) ![0, 0] S256x256.size inb_S256x256_S256x256_0_0).toLoadRect.idx y) = _
  rw [ey]
  by_cases e3 : (y 0).val / 128 = 1 ∧ (y 1).val / 128 = 1
  · exact (step (4 * k + 3) 1 1 _ _ (by omega) (by omega) (by omega)).1 e3.1 e3.2
  refine ((step (4 * k + 3) 1 1 _ _ (by omega) (by omega) (by omega)).2 e3).trans ?_
  by_cases e2 : (y 0).val / 128 = 1 ∧ (y 1).val / 128 = 0
  · exact (step (4 * k + 2) 1 0 _ _ (by omega) (by omega) (by omega)).1 e2.1 e2.2
  refine ((step (4 * k + 2) 1 0 _ _ (by omega) (by omega) (by omega)).2 e2).trans ?_
  by_cases e1 : (y 0).val / 128 = 0 ∧ (y 1).val / 128 = 1
  · exact (step (4 * k + 1) 0 1 _ _ (by omega) (by omega) (by omega)).1 e1.1 e1.2
  refine ((step (4 * k + 1) 0 1 _ _ (by omega) (by omega) (by omega)).2 e1).trans ?_
  exact (step (4 * k) 0 0 _ _ (by omega) (by omega) (by omega)).1 (by omega) (by omega)

/-- The block of column codes. -/
def O4 : Vec F S7168x128 .fp8e4m3 := fun y =>
  turn (Qv X G ((y 0).val / 512)) (ix2 (n0 := 256) (n1 := 256) ⟨(y 0).val % 256, Nat.mod_lt _ (by decide)⟩
    ⟨(y 0).val / 256 % 2 * 128 + (y 1).val, by have : (y 1).val < 128 := (y 1).isLt; omega⟩)

theorem read_pcs4 (arg8 : Memref sig .tc .vmem S256x256 .fp8e4m3) (arg5 : Memref sig .tc .vmem S7168x128 .fp8e4m3) (f) (n : ℕ) (hn : n ≤ 14)
    (y : S7168x128.Idx) (hy : (y 0).val < n * 512) :
    arg5.view.read (Elt F) (arg5.view.writes (Elt F) f (pcs4 X G arg8 n)) y = O4 X G y := by
  induction n with
  | zero => omega
  | succ n ih =>
    have o1 : (2 * n + 1) % 28 = 2 * n + 1 := Nat.mod_eq_of_lt (by omega)
    have o0 : (2 * n) % 28 = 2 * n := Nat.mod_eq_of_lt (by omega)
    have h1 : (y 1).val < 128 := (y 1).isLt
    have et : tile X G arg8 n = turn (Qv X G n) := by unfold tile; rw [readCov_pcsQ]
    unfold pcs4
    by_cases h : (y 0).val < (2 * n + 1) * 256
    · refine (View.read_writes_cons_unit_of_not_mem (s := S7168x128) _ f (off' := ![(2 * n + 1) * 256, 0]) (size := S256x128.size) _ _ _ y (by rw [o1]) 0 (Or.inl h)).trans ?_
      by_cases h' : (y 0).val < 2 * n * 256
      · exact (View.read_writes_cons_unit_of_not_mem (s := S7168x128) _ f (off' := ![2 * n * 256, 0]) (size := S256x128.size) _ _ _ y (by rw [o0]) 0 (Or.inl h')).trans (ih (by omega) (by omega))
      · refine (View.read_writes_cons_unit_of_mem (s := S7168x128) _ f (off' := ![2 * n * 256, 0]) (size := S256x128.size) _ _ _ y
          (ix2 (n0 := 256) (n1 := 128) ⟨(y 0).val % 256, Nat.mod_lt _ (by decide)⟩ (y 1)) (by rw [o0]) (fun a => ?_)).trans ?_
        · fin_cases a
          · show (y 0).val = 2 * n * 256 + (y 0).val % 256
            omega
          · exact (Nat.zero_add _).symm
        · have e : (y 0).val / 512 = n := by omega
          have e' : (y 0).val / 256 % 2 = 0 := by omega
          rw [et]; unfold O4
          rw [e]
          pointwise
          simp only [e']
          try simp
    · refine (View.read_writes_cons_unit_of_mem (s := S7168x128) _ f (off' := ![(2 * n + 1) * 256, 0]) (size := S256x128.size) _ _ _ y
          (ix2 (n0 := 256) (n1 := 128) ⟨(y 0).val % 256, Nat.mod_lt _ (by decide)⟩ (y 1)) (by rw [o1]) (fun a => ?_)).trans ?_
      · fin_cases a
        · show (y 0).val = (2 * n + 1) * 256 + (y 0).val % 256
          omega
        · exact (Nat.zero_add _).symm
      · have e : (y 0).val / 512 = n := by omega
        have e' : (y 0).val / 256 % 2 = 1 := by omega
        rw [et]; unfold O4
        rw [e]
        pointwise
        simp only [e']
        try simp

theorem out4 (arg8 : Memref sig .tc .vmem S256x256 .fp8e4m3) (arg5 : Memref sig .tc .vmem S7168x128 .fp8e4m3) (f) :
    arg5.view.read (Elt F) (arg5.view.writes (Elt F) f (pcs4 X G arg8 14)) = O4 X G :=
  funext fun y => read_pcs4 X G arg8 arg5 f 14 le_rfl y (y 0).isLt

/-! ## The loads -/

/-- Group `k`'s columns of a block of `x`. -/
def blkX (x0 : Vec F S128x7168 .bf16) (k : ℕ) : Vec F S128x128 .bf16 := fun y =>
  x0 (ix2 (n0 := 128) (n1 := 7168) (y 0) ⟨k % 56 * 128 + (y 1).val, by
    have : k % 56 < 56 := Nat.mod_lt _ (by decide)
    have : (y 1).val < 128 := (y 1).isLt
    omega⟩)

/-- Group `k`'s columns of `gamma`. -/
def blkG (x1 : Vec F S1x7168 .f32) (k : ℕ) : Vec F S1x128 .f32 := fun y =>
  x1 (ix2 (n0 := 1) (n1 := 7168) (y 0) ⟨k % 56 * 128 + (y 1).val, by
    have : k % 56 < 56 := Nat.mod_lt _ (by decide)
    have : (y 1).val < 128 := (y 1).isLt
    omega⟩)

theorem ldX_eq (arg1 : Memref sig .tc .vmem S128x7168 .bf16) (harg1 : arg1.IsWhole) (x0 : Vec F S128x7168 .bf16) : ldX arg1 harg1 x0 = blkX x0 := by
  funext k y
  unfold ldX blkX
  rw [harg1.readAt_unread]
  refine congrArg x0 (funext fun a => Fin.ext ?_)
  fin_cases a <;> simp [LoadRect.idx] <;> rfl

theorem ldG_eq (arg2 : Memref sig .tc .vmem S1x7168 .f32) (harg2 : arg2.IsWhole) (x1 : Vec F S1x7168 .f32) : ldG arg2 harg2 x1 = blkG x1 := by
  funext k y
  unfold ldG blkG
  rw [harg2.readAt_unread]
  refine congrArg x1 (funext fun a => Fin.ext ?_)
  fin_cases a <;> simp [LoadRect.idx] <;> rfl

end Cert.KernelIdeal.Gen

end
-- ==== Proof.Point.lean ====
module

public import proofs.«01_k».proof.Proof.EqA
public import proofs.«01_k».proof.Proof.EqB
public import proofs.«01_k».proof.Proof.Contents

@[expose] public section

/-! # One point of the grid, its results named -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

/-- The body's run at any point, its stores read back: the three blocks of the point, the last point's copy of the
    column scales, the point's row of the rows' factors, and the point's row of the second scratch buffer. -/
theorem body_step (c : Dev nD) (i : grid0.Coords) (arg1 : Memref sig .tc .vmem S128x7168 .bf16) (harg1 : arg1.IsWhole) (arg2 : Memref sig .tc .vmem S1x7168 .f32) (harg2 : arg2.IsWhole) (arg3 : Memref sig .tc .vmem S128x7168 .fp8e4m3) (harg3 : arg3.IsWhole) (arg4 : Memref sig .tc .vmem S56x128 .f32) (harg4 : arg4.IsWhole) (arg5 : Memref sig .tc .vmem S7168x128 .fp8e4m3) (harg5 : arg5.IsWhole) (arg6 : Memref sig .tc .vmem S14x7168 .f32) (harg6 : arg6.IsWhole) (arg7 : Memref sig .tc .vmem S14x128 .f32) (harg7 : arg7.IsWhole) (arg8 : Memref sig .tc .vmem S256x256 .fp8e4m3) (harg8 : arg8.IsWhole) (arg9 : Memref sig .tc .vmem S56x16x128 .f32) (harg9 : arg9.IsWhole)
    (x0 : Vec F S128x7168 .bf16) (x1 : Vec F S1x7168 .f32) (d5 : Vec F S14x7168 .f32) (d6 : Vec F S14x128 .f32) (s1 : Vec F S56x16x128 .f32)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare d5 ∗ owns (c : Thread nD τ) arg7 fullShare d6 ∗ (∃ d, owns (c : Thread nD τ) arg8 fullShare d) ∗ owns (c : Thread nD τ) arg9 fullShare s1
        ∗ (iprop(owns (c : Thread nD τ) arg1 fullShare x0 ∗ owns (c : Thread nD τ) arg2 fullShare x1 ∗ owns (c : Thread nD τ) arg3 fullShare (O2 (blkX x0) (blkG x1)) ∗ owns (c : Thread nD τ) arg4 fullShare (rowScales (blkX x0) (blkG x1)) ∗ owns (c : Thread nD τ) arg5 fullShare (O4 (blkX x0) (blkG x1)) ∗ (∃ d, ⌜cond0_0 i → d = O5 (OS (blkX x0) (blkG x1) (rowAt i) 56 s1)⌝ ∗ owns (c : Thread nD τ) arg6 fullShare d) ∗ owns (c : Thread nD τ) arg7 fullShare (O6 (blkX x0) (rowAt i) d6) ∗ (∃ d, owns (c : Thread nD τ) arg8 fullShare d) ∗ owns (c : Thread nD τ) arg9 fullShare (OS (blkX x0) (blkG x1) (rowAt i) 56 s1)) -∗ K ⟨⟩))
      ⊢ wp frame (wpE (defs₀ (F := F)) Variants.none c none) E (cc0_rmsnorm_fp8 i arg1 harg1 arg2 harg2 arg3 harg3 arg4 harg4 arg5 harg5 arg6 harg6 arg7 harg7 arg8 harg8 arg9 harg9) K := by
  by_cases hc0 : cond0_0 i
  · iintro ⟨H0, H1, H2, H3, H4, H5, H6, HS0, HS1, Hk⟩
    iapply ((runB c i arg1 harg1 arg2 harg2 arg3 harg3 arg4 harg4 arg5 harg5 arg6 harg6 arg7 harg7 arg8 harg8 arg9 harg9 hc0 x0 x1 d6 s1).2.2.2.2.2.2 E K)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, ⟨%e2, H2⟩, ⟨%e3, H3⟩, ⟨%e4, H4⟩, ⟨%e5, H5⟩, H6, HS0, HS1⟩
    iapply Hk
    isplitl [H0]; · iexact H0
    isplitl [H1]; · iexact H1
    isplitl [H2]
    · unfold owns; iexists _; isplitr
      swap; · iexact H2
      ipureintro; rw [runB_rc, ldX_eq, ldG_eq]; exact out2 _ _ _ _
    isplitl [H3]
    · unfold owns; iexists _; isplitr
      swap; · iexact H3
      ipureintro; rw [runB_rst, ldX_eq, ldG_eq]; exact out3 _ _ _ _
    isplitl [H4]
    · unfold owns; iexists _; isplitr
      swap; · iexact H4
      ipureintro; rw [runB_cc, ldX_eq, ldG_eq]; exact out4 _ _ _ _ _
    isplitl [H5]
    · iexists _; isplitr
      · ipureintro; intro _; rfl
      unfold owns; iexists _; isplitr
      swap; · iexact H5
      ipureintro; rw [runB_cst, ldX_eq, ldG_eq, out5, outS _ _ _ _ _ _ _ _ le_rfl]
    isplitl [H6]
    · unfold owns; iexists _; isplitr
      swap; · iexact H6
      ipureintro; rw [runB_rsig, ldX_eq]; exact out6 _ _ _ _ _
    isplitl [HS0]; · iexact HS0
    unfold owns; iexists _; isplitr
    swap; · iexact HS1
    ipureintro; rw [runB_cs, ldX_eq, ldG_eq]; exact outS _ _ _ _ _ _ _ _ le_rfl
  · iintro ⟨H0, H1, H2, H3, H4, H5, H6, HS0, HS1, Hk⟩
    iapply ((runA c i arg1 harg1 arg2 harg2 arg3 harg3 arg4 harg4 arg5 harg5 arg6 harg6 arg7 harg7 arg8 harg8 arg9 harg9 hc0 x0 x1 d5 d6 s1).2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, ⟨%e2, H2⟩, ⟨%e3, H3⟩, ⟨%e4, H4⟩, H5, H6, HS0, HS1⟩
    iapply Hk
    isplitl [H0]; · iexact H0
    isplitl [H1]; · iexact H1
    isplitl [H2]
    · unfold owns; iexists _; isplitr
      swap; · iexact H2
      ipureintro; rw [runA_rc, ldX_eq, ldG_eq]; exact out2 _ _ _ _
    isplitl [H3]
    · unfold owns; iexists _; isplitr
      swap; · iexact H3
      ipureintro; rw [runA_rst, ldX_eq, ldG_eq]; exact out3 _ _ _ _
    isplitl [H4]
    · unfold owns; iexists _; isplitr
      swap; · iexact H4
      ipureintro; rw [runA_cc, ldX_eq, ldG_eq]; exact out4 _ _ _ _ _
    isplitl [H5]
    · iexists d5; isplitr
      · ipureintro; intro h; exact absurd h hc0
      iexact H5
    isplitl [H6]
    · unfold owns; iexists _; isplitr
      swap; · iexact H6
      ipureintro; rw [runA_rsig, ldX_eq]; exact out6 _ _ _ _ _
    isplitl [HS0]; · iexact HS0
    unfold owns; iexists _; isplitr
    swap; · iexact HS1
    ipureintro; rw [runA_cs, ldX_eq, ldG_eq]; exact outS _ _ _ _ _ _ _ _ le_rfl

end Cert.KernelIdeal.Gen

end
-- ==== Proof.Launch.lean ====
module

public import proofs.«01_k».proof.Proof.Point
public import proofs.«01_k».proof.Proof.Gen.KernelIdeal.Frame
public import Idealize.ShloMosaic.Lib.Claim

@[expose] public section

/-! # The launch

  What every point may leave in the output windows and in the second scratch buffer, the body's obligation, and the
  run of the whole program. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

variable (m : (ℓ : Loc nD τ sig) → Buf (Elt F) ℓ) (ρ : Dev nD → PrngReg)

/-- The point numbered `s`. -/
def pt (s : ℕ) : Fin cfg0.N := ⟨s % 14, by rw [show cfg0.N = 14 from N_0]; exact Nat.mod_lt _ (by decide)⟩

theorem pt_val (t : Fin cfg0.N) : pt t.val = t := by
  have ht : t.val < 14 := lt_of_lt_of_eq t.isLt (show cfg0.N = 14 from N_0)
  exact Fin.ext (Nat.mod_eq_of_lt ht)

theorem rowAt_pt (t : Fin cfg0.N) : rowAt (grid0.coords t) = t.val := by
  have ht : t.val < 14 := lt_of_lt_of_eq t.isLt (show cfg0.N = 14 from N_0)
  have e0 : (grid0.coords t 0).val = t.val / 1 % 14 := Pipeline.Grid.coords_val t 0 (by decide) rfl
  rw [rowAt_eq, e0]; omega

/-- The groups of the block of `x` at a point, -/
def Xb (c : Dev nD) (t : Fin cfg0.N) : ℕ → Vec F S128x128 .bf16 := blkX (iblk m c 0 t)
/-- and of `gamma`. -/
def Gb (c : Dev nD) (t : Fin cfg0.N) : ℕ → Vec F S1x128 .f32 := blkG (iblk m c 1 t)

/-- The second scratch buffer holds the column scales of the first `n` points. -/
def CsOk (c : Dev nD) (n : ℕ) (d : Vec F S56x16x128 .f32) : Prop :=
  ∀ y : S56x16x128.Idx, (y 1).val < n → (y 1).val < 14 →
    d y = scaleOf (aCol (Xb m c (pt (y 1).val)) (Gb m c (pt (y 1).val)) (y 0).val) (ix2 (n0 := 1) (n1 := 128) 0 (y 2))

theorem CsOk_succ (c : Dev nD) (t : Fin cfg0.N) (d : Vec F S56x16x128 .f32) (h : CsOk m c t.val d) :
    CsOk m c (t.val + 1) (OS (Xb m c t) (Gb m c t) t.val 56 d) := by
  intro y h1 h2
  unfold OS
  by_cases hy : (y 1).val = t.val
  · rw [if_pos ⟨hy, (y 0).isLt⟩, hy, pt_val]
  · rw [if_neg fun h => hy h.1]
    exact h y (by omega) h2

theorem CsOk_last (c : Dev nD) (t : Fin cfg0.N) (ht : t.val = 13) (d : Vec F S56x16x128 .f32) (h : CsOk m c t.val d) :
    CsOk m c 14 (OS (Xb m c t) (Gb m c t) t.val 56 d) := by
  intro y h1 h2
  exact CsOk_succ m c t d h y (by omega) h2

/-- What is known of each window's buffer after the body at a point, from what it held before. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun _ X => X = O2 (Xb m c t) (Gb m c t)
    | ⟨3, _⟩ => fun _ X => X = rowScales (Xb m c t) (Gb m c t)
    | ⟨4, _⟩ => fun _ X => X = O4 (Xb m c t) (Gb m c t)
    | ⟨5, _⟩ => fun _ X => t.val = 13 → ∃ d, CsOk m c 14 d ∧ X = O5 d
    | ⟨6, _⟩ => fun Y X => X = O6 (Xb m c t) t.val Y
  Φ t := iprop(iprop((∃ d, owns (c : Thread nD τ) scM0_0 fullShare d) ∗ (∃ d, ⌜CsOk m c t.val d⌝ ∗ owns (c : Thread nD τ) scM0_1 fullShare d)) ∗ (∃ r, prngReg c r))
  q _ := fullShare
  owed _ := 0

theorem A_eq (c : Dev nD) (w : Fin cfg0.W) : (rdat m c).A w = V m c (Pipeline.arrRef spec0 w) := by
  dsimp only [rdat]

theorem finds0 (c : Dev nD) (t : Fin cfg0.N) (Y) (h : (rdat m c).Finds 0 t Y) : Y = iblk m c 0 t := by
  obtain ⟨d, e⟩ := (rdat m c).finds_in_eq_fetched 0 rfl (fun _ _ _ => rfl) (fun t Y X h => by simpa only [rdat] using h) t Y h
  rw [e]; unfold RDat.fetched RDat.blockOf iblk; rw [A_eq]; rfl
theorem finds1 (c : Dev nD) (t : Fin cfg0.N) (Y) (h : (rdat m c).Finds 1 t Y) : Y = iblk m c 1 t := by
  obtain ⟨d, e⟩ := (rdat m c).finds_in_eq_fetched 1 rfl (fun _ _ _ => rfl) (fun t Y X h => by simpa only [rdat] using h) t Y h
  rw [e]; unfold RDat.fetched RDat.blockOf iblk; rw [A_eq]; rfl

/-- What the body is called with at a point, -/
def bodyPre (c : Dev nD) (t : Fin cfg0.N) (Y : (w : Fin cfg0.W) → (cfg0.win w).block.Idx → Elt F (cfg0.win w).elt) : sProp (MT nD τ sig Unit (Elt F) ℕ (UR sig nD τ) ℕ) :=
  iprop((rdat m c).Φ t.castSucc ∗ (rdat m c).owesAt () t.castSucc
    ∗ owns (c : Thread nD τ) (ms0_0 t) fullShare (Y 0) ∗ owns (c : Thread nD τ) (ms0_1 t) fullShare (Y 1)
    ∗ owns (c : Thread nD τ) (ms0_2 t) fullShare (Y 2) ∗ owns (c : Thread nD τ) (ms0_3 t) fullShare (Y 3)
    ∗ owns (c : Thread nD τ) (ms0_4 t) fullShare (Y 4) ∗ owns (c : Thread nD τ) (ms0_5 t) fullShare (Y 5)
    ∗ owns (c : Thread nD τ) (ms0_6 t) fullShare (Y 6))

/-- and what it returns. -/
def bodyPost (c : Dev nD) (t : Fin cfg0.N) (Y : (w : Fin cfg0.W) → (cfg0.win w).block.Idx → Elt F (cfg0.win w).elt) : sProp (MT nD τ sig Unit (Elt F) ℕ (UR sig nD τ) ℕ) :=
  iprop((rdat m c).Φ t.succ ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X)
    ∗ (∃ X, ⌜(rdat m c).after 6 t (Y 6) X⌝ ∗ owns (c : Thread nD τ) (ms0_6 t) fullShare X))

set_option maxHeartbeats 1600000 in
/-- The body at any point. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  have e0 : Y 0 = iblk m c 0 t := finds0 m c t _ (hY 0)
  have e1 : Y 1 = iblk m c 1 t := finds1 m c t _ (hY 1)
  have hlast : t.val = 13 → t.val % 14 = 13 := by intro h; omega
  unfold bodyPre bodyPost bodyAt0
  rw [show (rdat m c).owesAt () t.succ = (rdat m c).owesAt () t.castSucc from rfl]
  dsimp only [rdat]
  iintro ⟨⟨⟨HS0, ⟨%s1, %hs1, HS1⟩⟩, Hg⟩, Ho, H0, H1, H2, H3, H4, H5, H6⟩
  iapply (body_step c (grid0.coords t) _ _ _ _ _ _ _ _ _ _ _ _ _ _ _ _ _ _ (Y 0) (Y 1) (Y 5) (Y 6) s1 Set.univ _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [H6]; · iexact H6
  isplitl [HS0]; · iexact HS0
  isplitl [HS1]; · iexact HS1
  iintro ⟨H0, H1, H2, H3, H4, ⟨%x5, %h5, H5⟩, H6, HS0, HS1⟩
  have eX : blkX (Y 0) = Xb m c t := by rw [e0]; rfl
  have eG : blkG (Y 1) = Gb m c t := by rw [e1]; rfl
  rw [eX, eG, rowAt_pt] at h5
  rw [eX, eG, rowAt_pt]
  isplitl [HS0 HS1 Hg]
  · isplitl [HS0 HS1]
    · isplitl [HS0]
      · iexact HS0
      iexists _; isplitr
      swap; · iexact HS1
      ipureintro; exact CsOk_succ m c t s1 hs1
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro
    intro ht
    have e5 := h5 ((hcond0_0 t).mpr (hlast ht))
    have hl : CsOk m c 14 (OS (Xb m c t) (Gb m c t) t.val 56 s1) := CsOk_last m c t ht s1 hs1
    exact ⟨OS (Xb m c t) (Gb m c t) t.val 56 s1, hl, e5⟩
  iexists _; isplitr
  swap; · iexact H6
  ipureintro; rfl

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

theorem Phi_in (c : Dev nD) : Pipeline.ΦA spec0 c ⊢ (rdat (F := F) m c).Φ 0 := by
  rw [PhiA0_eq]; dsimp only [rdat]
  iintro ⟨⟨HS0, ⟨%d, HS1⟩⟩, Hg⟩
  isplitl [HS0 HS1]
  · isplitl [HS0]
    · iexact HS0
    iexists _; isplitr
    swap; · iexact HS1
    ipureintro; intro y h; exact absurd h (Nat.not_lt_zero _)
  iexact Hg

theorem Phi_out (c : Dev nD) : (rdat (F := F) m c).Φ (Fin.last cfg0.N) ⊢ Pipeline.ΦA spec0 c := by
  rw [PhiA0_eq]; dsimp only [rdat]
  iintro ⟨⟨HS0, ⟨%d, %hd, HS1⟩⟩, Hg⟩
  isplitl [HS0 HS1]
  · isplitl [HS0]
    · iexact HS0
    iexists _; iexact HS1
  iexact Hg

set_option backward.isDefEq.respectTransparency.types false in
/-- The run of the whole program: the outputs' arrays as the points leave them, and every semaphore at zero. -/
theorem run_main_quiescent : θ_run defs (onTc (τ := τ) (main (F := F))) (s₀ m ρ) (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := Phi_in m) (hout := Phi_out m)

/-- The arguments end as launched. -/
theorem args_kept {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c)⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨args_kept m h.1, h.2⟩) (run_main_quiescent m ρ)

end Cert.KernelIdeal.Gen

end
-- ==== Proof.Arrays.lean ====
module

public import proofs.«01_k».proof.Proof.Launch
public import Idealize.ShloMosaic.Lib.Pipeline.ArrRel

@[expose] public section

/-! # What the arrays hold after the run -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

variable (m : (ℓ : Loc nD τ sig) → Buf (Elt F) ℓ)

/-! ## The arrays the kernel reads -/

theorem V_v0 (c : Dev nD) : V m c main_v0 = shapeCast S1792x7168 (m ((c : Thread nD τ).loc main_arg0) : Vec F S2x896x7168 .bf16) shapeCasts_S2x896x7168_S1792x7168 := by
  simp only [V, hostOps0, StableHlo.after_cons, StableHlo.after_nil]
  rfl
theorem V_v1 (c : Dev nD) : V m c main_v1 = shapeCast S1x7168 (m ((c : Thread nD τ).loc main_arg1) : Vec F S7168 .f32) shapeCasts_S7168_S1x7168 := by
  simp only [V, hostOps0, StableHlo.after_cons, StableHlo.after_nil]
  rfl

/-! ## Where the blocks lie -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-- Two indices into a matrix with equal coordinates. -/
theorem ext2 {s : Shape} {p q : s.Idx} (hs : s.rank = 2 := by rfl) (h0 : (p ⟨0, by omega⟩).val = (q ⟨0, by omega⟩).val)
    (h1 : (p ⟨1, by omega⟩).val = (q ⟨1, by omega⟩).val) : p = q :=
  funext fun a => Fin.ext (by
    rcases a with ⟨_ | _ | n, ha⟩
    · exact h0
    · exact h1
    · omega)

theorem t_lt (t : Fin cfg0.N) : t.val < 14 := lt_of_lt_of_eq t.isLt (show cfg0.N = 14 from N_0)

/-- The block of `x` at a point, in the array. -/
theorem iblk0_apply (c : Dev nD) (t : Fin cfg0.N) (y : S128x7168.Idx) :
    iblk m c 0 t y = shapeCast S1792x7168 (m ((c : Thread nD τ).loc main_arg0) : Vec F S2x896x7168 .bf16) shapeCasts_S2x896x7168_S1792x7168
      (ix2 (n0 := 1792) (n1 := 7168) ⟨t.val * 128 + (y 0).val, by have := t_lt t; have : (y 0).val < 128 := (y 0).isLt; omega⟩ (y 1)) := by
  rw [← V_v0]
  obtain ⟨e0, e1⟩ := idx0 t
  show V m c main_v0 (((cfg0.win 0).blk t).view.emb y) = _
  refine congrArg (V m c main_v0) (funext fun a => Fin.ext ?_)
  match a with
  | ⟨0, _⟩ => show win0_0.index t (0 : Fin 2) * 128 + 1 * (y 0).val = t.val * 128 + (y 0).val; omega
  | ⟨1, _⟩ => show win0_0.index t (1 : Fin 2) * 7168 + 1 * (y 1).val = (y 1).val; omega

/-- The block of `gamma`, in the array. -/
theorem iblk1_apply (c : Dev nD) (t : Fin cfg0.N) (y : S1x7168.Idx) :
    iblk m c 1 t y = shapeCast S1x7168 (m ((c : Thread nD τ).loc main_arg1) : Vec F S7168 .f32) shapeCasts_S7168_S1x7168 y := by
  rw [← V_v1]
  obtain ⟨e0, e1⟩ := idx1 t
  show V m c main_v1 (((cfg0.win 1).blk t).view.emb y) = _
  refine congrArg (V m c main_v1) (funext fun a => Fin.ext ?_)
  match a with
  | ⟨0, _⟩ => show win0_1.index t (0 : Fin 2) * 1 + 1 * (y 0).val = (y 0).val; omega
  | ⟨1, _⟩ => show win0_1.index t (1 : Fin 2) * 7168 + 1 * (y 1).val = (y 1).val; omega

/-! ## The results -/

/-- The codes by rows, -/
def kRC (c : Dev nD) : Vec F S1792x7168 .fp8e4m3 := fun y =>
  O2 (Xb m c (pt ((y 0).val / 128))) (Gb m c (pt ((y 0).val / 128))) (ix2 (n0 := 128) (n1 := 7168) ⟨(y 0).val % 128, Nat.mod_lt _ (by decide)⟩ (y 1))
/-- their scales, -/
def kRS (c : Dev nD) : Vec F S56x1792 .f32 := fun y =>
  rowScales (Xb m c (pt ((y 1).val / 128))) (Gb m c (pt ((y 1).val / 128))) (ix2 (n0 := 56) (n1 := 128) (y 0) ⟨(y 1).val % 128, Nat.mod_lt _ (by decide)⟩)
/-- the codes by columns, -/
def kCC (c : Dev nD) : Vec F S7168x1792 .fp8e4m3 := fun y =>
  O4 (Xb m c (pt ((y 1).val / 128))) (Gb m c (pt ((y 1).val / 128))) (ix2 (n0 := 7168) (n1 := 128) (y 0) ⟨(y 1).val % 128, Nat.mod_lt _ (by decide)⟩)
/-- their scales, -/
def kCS (c : Dev nD) : Vec F S14x7168 .f32 := fun y =>
  scaleOf (aCol (Xb m c (pt (y 0).val)) (Gb m c (pt (y 0).val)) ((y 1).val / 128)) (ix2 (n0 := 1) (n1 := 128) 0 ⟨(y 1).val % 128, Nat.mod_lt _ (by decide)⟩)
/-- and the rows' factors. -/
def kSG (c : Dev nD) : Vec F S14x128 .f32 := fun y => rsRow (Xb m c (pt (y 0).val)) (ix2 (n0 := 1) (n1 := 128) 0 (y 1))

theorem kRC_blk (c : Dev nD) (t : Fin cfg0.N) (y : S128x7168.Idx) (i : S1792x7168.Idx) (h0 : (i 0).val = t.val * 128 + (y 0).val) (h1 : (i 1).val = (y 1).val) :
    O2 (Xb m c t) (Gb m c t) y = kRC m c i := by
  have hy : (y 0).val < 128 := (y 0).isLt
  unfold kRC
  rw [show (i 0).val / 128 = t.val by omega, pt_val]
  exact congrArg _ (ext2 rfl (by show (y 0).val = (i 0).val % 128; omega) h1.symm)

theorem kRS_blk (c : Dev nD) (t : Fin cfg0.N) (y : S56x128.Idx) (i : S56x1792.Idx) (h0 : (i 0).val = (y 0).val) (h1 : (i 1).val = t.val * 128 + (y 1).val) :
    rowScales (Xb m c t) (Gb m c t) y = kRS m c i := by
  have hy : (y 1).val < 128 := (y 1).isLt
  unfold kRS
  rw [show (i 1).val / 128 = t.val by omega, pt_val]
  exact congrArg _ (ext2 rfl h0.symm (by show (y 1).val = (i 1).val % 128; omega))

theorem kCC_blk (c : Dev nD) (t : Fin cfg0.N) (y : S7168x128.Idx) (i : S7168x1792.Idx) (h0 : (i 0).val = (y 0).val) (h1 : (i 1).val = t.val * 128 + (y 1).val) :
    O4 (Xb m c t) (Gb m c t) y = kCC m c i := by
  have hy : (y 1).val < 128 := (y 1).isLt
  unfold kCC
  rw [show (i 1).val / 128 = t.val by omega, pt_val]
  exact congrArg _ (ext2 rfl h0.symm (by show (y 1).val = (i 1).val % 128; omega))

theorem kCS_eq (c : Dev nD) (d : Vec F S56x16x128 .f32) (h : CsOk m c 14 d) : O5 d = kCS m c := by
  funext y
  unfold O5 kCS
  have h0 : (y 0).val < 14 := (y 0).isLt
  rw [h _ h0 h0]
  rfl

/-- Of the rows' factors, the rows up to a point's are in place after it. -/
theorem leaves6 (c : Dev nD) (n : ℕ) (t : Fin cfg0.N) (ht : t.val = n) (X) (h : (rdat m c).Leaves 6 t X) (y : S14x128.Idx) (hy : (y 0).val ≤ n) :
    X y = kSG m c y := by
  induction n generalizing t X with
  | zero =>
    obtain ⟨Y, -, h⟩ := h
    dsimp only [rdat] at h
    rw [h]; unfold O6 kSG
    rw [if_pos (by omega), show (y 0).val = t.val by omega, pt_val]
  | succ n ih =>
    obtain ⟨Y, hY, h⟩ := h
    dsimp only [rdat] at h
    rw [h]; unfold O6
    by_cases hr : (y 0).val = t.val
    · unfold kSG
      rw [if_pos hr, hr, pt_val]
    · rw [if_neg hr]
      rcases ((rdat m c).finds_of_pos (w := 6) rfl (by omega) Y).mp hY with hf | hL
      · exact absurd ((flush0_6 _).mp hf) (by have := t_lt t; show ¬ (t.val - 1) % 14 = 13; omega)
      · exact ih ⟨t.val - 1, _⟩ (by show t.val - 1 = n; omega) Y hL (by omega)

/-- Every output array after the run. -/
theorem outs {r : PUnit × MemSt nD τ sig (Elt F)} (h : Pipeline.RDat.FramePost (cfgs 0) (rdat m) (V m) r) (c : Dev nD) :
    r.2.mem ((c : Thread nD τ).loc main_v2_0) = kRC m c ∧ r.2.mem ((c : Thread nD τ).loc main_v2_1) = kRS m c
      ∧ r.2.mem ((c : Thread nD τ).loc main_v2_2) = kCC m c ∧ r.2.mem ((c : Thread nD τ).loc main_v2_3) = kCS m c
      ∧ r.2.mem ((c : Thread nD τ).loc main_v2_4) = kSG m c := by
  obtain ⟨after, hL, hA⟩ := h.exists_exact c
  refine ⟨(hA 2).trans ?_, (hA 3).trans ?_, (hA 4).trans ?_, (hA 5).trans ?_, (hA 6).trans ?_⟩
  · refine Pipeline.Dat.arrAt_eq_of_covers (cfg := cfg0) ((rdat m c).withAfter after) 2 (kRC m c) (by decide +kernel) fun t hf y => ?_
    obtain ⟨Y, -, e⟩ := hL 2 t hf
    dsimp only [rdat] at e
    obtain ⟨e0, e1⟩ := idx2 t
    show after 2 t _ = _
    rw [e]
    exact kRC_blk m c t _ _ (by show win0_2.index t (0 : Fin 2) * 128 + 1 * (y 0).val = t.val * 128 + (y 0).val; omega)
      (by show win0_2.index t (1 : Fin 2) * 7168 + 1 * (y 1).val = (y 1).val; omega)
  · refine Pipeline.Dat.arrAt_eq_of_covers (cfg := cfg0) ((rdat m c).withAfter after) 3 (kRS m c) (by decide +kernel) fun t hf y => ?_
    obtain ⟨Y, -, e⟩ := hL 3 t hf
    dsimp only [rdat] at e
    obtain ⟨e0, e1⟩ := idx3 t
    show after 3 t _ = _
    rw [e]
    exact kRS_blk m c t _ _ (by show win0_3.index t (0 : Fin 2) * 56 + 1 * (y 0).val = (y 0).val; omega)
      (by show win0_3.index t (1 : Fin 2) * 128 + 1 * (y 1).val = t.val * 128 + (y 1).val; omega)
  · refine Pipeline.Dat.arrAt_eq_of_covers (cfg := cfg0) ((rdat m c).withAfter after) 4 (kCC m c) (by decide +kernel) fun t hf y => ?_
    obtain ⟨Y, -, e⟩ := hL 4 t hf
    dsimp only [rdat] at e
    obtain ⟨e0, e1⟩ := idx4 t
    show after 4 t _ = _
    rw [e]
    exact kCC_blk m c t _ _ (by show win0_4.index t (0 : Fin 2) * 7168 + 1 * (y 0).val = (y 0).val; omega)
      (by show win0_4.index t (1 : Fin 2) * 128 + 1 * (y 1).val = t.val * 128 + (y 1).val; omega)
  · refine Pipeline.Dat.arrAt_eq_of_covers (cfg := cfg0) ((rdat m c).withAfter after) 5 (kCS m c) (by decide +kernel) fun t hf y => ?_
    obtain ⟨Y, -, e⟩ := hL 5 t hf
    dsimp only [rdat] at e
    have h13 := (flush0_5 t).mp hf
    have ht := t_lt t
    obtain ⟨d, hd, e⟩ := e (by omega)
    obtain ⟨e0, e1⟩ := idx5 t
    show after 5 t _ = _
    rw [e, kCS_eq m c d hd]
    exact congrArg (kCS m c) (funext fun a => Fin.ext (by
      match a with
      | ⟨0, _⟩ => show (y 0).val = win0_5.index t (0 : Fin 2) * 14 + 1 * (y 0).val; omega
      | ⟨1, _⟩ => show (y 1).val = win0_5.index t (1 : Fin 2) * 7168 + 1 * (y 1).val; omega))
  · refine Pipeline.Dat.arrAt_eq_of_covers (cfg := cfg0) ((rdat m c).withAfter after) 6 (kSG m c) (by decide +kernel) fun t hf y => ?_
    have h13 := (flush0_6 t).mp hf
    have ht := t_lt t
    obtain ⟨e0, e1⟩ := idx6 t
    show after 6 t _ = _
    rw [leaves6 m c 13 t (by omega) _ (hL 6 t hf) _ (by have : (y 0).val < 14 := (y 0).isLt; show (y 0).val ≤ 13; omega)]
    exact congrArg (kSG m c) (funext fun a => Fin.ext (by
      match a with
      | ⟨0, _⟩ => show (y 0).val = win0_6.index t (0 : Fin 2) * 14 + 1 * (y 0).val; omega
      | ⟨1, _⟩ => show (y 1).val = win0_6.index t (1 : Fin 2) * 128 + 1 * (y 1).val; omega))

end Cert.KernelIdeal.Gen

end
-- ==== Proof.Scale.lean ====
module

public import proofs.«01_k».proof.Proof.Step
public import Idealize.ShloMosaic.Lib.Pointwise
public import Idealize.ShloMosaic.PureOps.Ideal.Laws

@[expose] public section

/-! # The scale at the extended reals

The kernel finds the exponent of its scale by a search over the words of the powers of two. At the extended reals the word
it finds is that of the greatest power of two at most the value (of zero, where there is none), so the scale is the least
power of two above the value, and the factor it multiplies with is that power's inverse. -/

set_option maxRecDepth 16384

noncomputable section

namespace Cert.KernelIdeal.Gen

open Idealize.ShloMosaic Idealize.ShloMosaic.TcCoe Idealize.ShloMosaic.Tactic

/-! ## The powers of two by their exponent field -/

/-- The word with exponent field `f` and nothing else. -/
def word (f : ℕ) : BitVec 32 := BitVec.ofNat 32 (f * 8388608)

/-- What it denotes. -/
def pw (f : ℕ) : EReal := Ideal.ofBits .f32 (word f)

theorem word_fields : ∀ f : Fin 256, ((word f.val).extractLsb' 31 1 == 1#1) = false ∧ ((word f.val).extractLsb' 23 8).toNat = f.val
    ∧ ((word f.val).extractLsb' 0 23).toNat = 0 := by decide +kernel

theorem pw_eq (f : ℕ) (h1 : 1 ≤ f) (h2 : f ≤ 254) : pw f = (((2 : ℝ) ^ ((f : ℤ) - 127) : ℝ) : EReal) := by
  obtain ⟨a, b, c⟩ := word_fields ⟨f, by omega⟩
  simp only at a b c
  show Ideal.ieee 8 23 (word f) = _
  simp only [Ideal.ieee]
  rw [show (8 + 23 : ℕ) = 31 from rfl, a, b, c]
  rw [if_neg (by norm_num; omega), if_neg (by omega)]
  norm_num
  rw [← EReal.coe_mul, show (8388608 : ℝ) = 2 ^ (23 : ℤ) by norm_num, ← zpow_add₀ (by norm_num)]
  congr 2; ring

theorem pw_zero : pw 0 = 0 := by simp [pw, word, Ideal.ofBits, Ideal.ieee]
theorem pw_top : pw 255 = ⊤ := by simp [pw, word, Ideal.ofBits, Ideal.ieee]

theorem pw_mono (f g : ℕ) (h1 : 1 ≤ f) (h : f ≤ g) (h2 : g ≤ 254) : pw f ≤ pw g := by
  rw [pw_eq f h1 (by omega), pw_eq g (by omega) h2]
  exact EReal.coe_le_coe_iff.mpr (zpow_le_zpow_right₀ (by norm_num) (by omega))

/-! ## The search -/

/-- One step, on one value. -/
theorem probe_apply {s : Shape} (t : FVec Ideal s .f32) (b : BitVec 32) (w : IVec s 32) (i : s.Idx) :
    probe t b w i = if Ideal.ofBits .f32 (w i ||| b) ≤ t i then w i ||| b else w i := by
  show (if Ideal.cmp .oge (t i) (Ideal.ofBits .f32 (w i ||| b)) = 1#1 then w i ||| b else w i) = _
  simp only [Ideal.cmp]
  by_cases h : Ideal.ofBits .f32 (w i ||| b) ≤ t i <;> simp [h]

theorem word_or : ∀ (k : Fin 8) (f : Fin 256), f.val % 2 ^ (k.val + 1) = 0 →
    word f.val ||| word (2 ^ k.val) = word (f.val + 2 ^ k.val) ∧ f.val + 2 ^ k.val < 256 ∧ (f.val + 2 ^ k.val) % 2 ^ k.val = 0 ∧ f.val % 2 ^ k.val = 0 := by decide +kernel

/-- After the steps down to bit `k` the word found has field `f`. -/
def Found (t : EReal) (k f : ℕ) : Prop := f < 256 ∧ f % 2 ^ k = 0 ∧ pw f ≤ t ∧ (f + 2 ^ k = 256 ∨ t < pw (f + 2 ^ k))

theorem found_step {s : Shape} (t : FVec Ideal s .f32) (i : s.Idx) (k : Fin 8) (b : BitVec 32) (hb : b = word (2 ^ k.val)) (w : IVec s 32)
    (h : ∃ f, Found (t i) (k.val + 1) f ∧ w i = word f) : ∃ f, Found (t i) k.val f ∧ probe t b w i = word f := by
  obtain ⟨f, ⟨hf, hm, hle, hlt⟩, hw⟩ := h
  obtain ⟨e1, e2, e3, e4⟩ := word_or k ⟨f, hf⟩ hm
  simp only at e1 e2 e3 e4
  rw [probe_apply, hw, hb, e1]
  by_cases hc : pw (f + 2 ^ k.val) ≤ t i
  · refine ⟨f + 2 ^ k.val, ⟨e2, e3, hc, ?_⟩, if_pos hc⟩
    rwa [add_assoc, ← two_mul, ← pow_succ']
  · exact ⟨f, ⟨hf, e4, hle, .inr (not_le.mp hc)⟩, if_neg hc⟩

theorem expWord_found {s : Shape} (t : FVec Ideal s .f32) (i : s.Idx) (h0 : 0 ≤ t i) : ∃ f, Found (t i) 0 f ∧ expWord t i = word f := by
  unfold expWord
  refine found_step t i 0 _ (by decide) _ (found_step t i 1 _ (by decide) _ (found_step t i 2 _ (by decide) _ (found_step t i 3 _ (by decide) _
    (found_step t i 4 _ (by decide) _ (found_step t i 5 _ (by decide) _ (found_step t i 6 _ (by decide) _ (found_step t i 7 _ (by decide) _ ?_)))))))
  exact ⟨0, ⟨by decide, by decide, by rw [pw_zero]; exact h0, .inl (by decide)⟩, rfl⟩

/-! ## The scale and its inverse -/

/-- The exponent from the word the search found. -/
def expoW (w : BitVec 32) : BitVec 32 :=
  have field : BitVec 32 := IntOp.shrui .vector w 23#32
  Scalar.select (IntOp.ori (IntOp.cmpi .eq field 0#32) (IntOp.cmpi .eq field 255#32)) 0#32 (IntOp.subi field 126#32)

theorem words : ∀ f : Fin 253, IntOp.shli .vector (IntOp.addi (expoW (word f.val)) 127#32) 23#32 = word (if f.val = 0 then 127 else f.val + 1)
    ∧ IntOp.shli .vector (IntOp.subi 127#32 (expoW (word f.val))) 23#32 = word (if f.val = 0 then 127 else 253 - f.val) := by decide +kernel

theorem expo_apply {s : Shape} (a : FVec Ideal s .f32) (i : s.Idx) :
    expo a i = expoW (expWord (mulf a (broadcast s (Scalar.ofBits .f32 0x3B124925#32))) i) := rfl

/-- The value whose exponent the search finds. -/
def tOf (a : EReal) : EReal := a * Ideal.ofBits .f32 0x3B124925#32

theorem scale_found {s : Shape} (a : FVec Ideal s .f32) (i : s.Idx) (h0 : 0 ≤ tOf (a i)) (h1 : tOf (a i) < pw 253) :
    ∃ f, f ≤ 252 ∧ pw f ≤ tOf (a i) ∧ tOf (a i) < pw (f + 1) ∧ scaleOf a i = pw (if f = 0 then 127 else f + 1)
      ∧ invOf a i = pw (if f = 0 then 127 else 253 - f) := by
  obtain ⟨f, ⟨hf, -, hle, hlt⟩, hw⟩ := expWord_found (mulf a (broadcast s (Scalar.ofBits .f32 0x3B124925#32))) i h0
  change pw f ≤ tOf (a i) at hle
  change f + 1 = 256 ∨ tOf (a i) < pw (f + 1) at hlt
  have hf' : f ≤ 252 := by
    by_contra hc
    rcases (show f = 253 ∨ f = 254 ∨ f = 255 by omega) with rfl | rfl | rfl
    · exact absurd (hle.trans_lt h1) (lt_irrefl _)
    · exact absurd ((pw_mono 253 254 (by decide) (by decide) (by decide)).trans_lt (hle.trans_lt h1)) (lt_irrefl _)
    · rw [pw_top] at hle; exact absurd (hle.trans_lt h1) (not_lt_of_ge le_top)
  have he := expo_apply a i
  rw [hw] at he
  obtain ⟨e1, e2⟩ := words ⟨f, by omega⟩
  simp only at e1 e2
  refine ⟨f, hf', hle, hlt.resolve_left (by omega), ?_, ?_⟩
  · show Ideal.ofBits .f32 _ = _
    unfold pw
    refine congrArg _ ?_
    rw [← e1, ← he]; rfl
  · show Ideal.ofBits .f32 _ = _
    unfold pw
    refine congrArg _ ?_
    rw [← e2, ← he]; rfl

/-- The scale as the reference states it: the least power of two above the value, or one where the value is below the
    normal numbers. -/
def refScale (a : EReal) : EReal :=
  if tOf a < pw 1 then 1
  else (Finset.univ : Finset (Fin 253)).fold min ⊤ fun n => if tOf a < (((2 : ℝ) ^ ((n.val : ℤ) - 125) : ℝ) : EReal) then (((2 : ℝ) ^ ((n.val : ℤ) - 125) : ℝ) : EReal) else ⊤

theorem pw_succ (n : Fin 253) : (((2 : ℝ) ^ ((n.val : ℤ) - 125) : ℝ) : EReal) = pw (n.val + 2) := by
  rw [pw_eq _ (by omega) (by omega)]
  congr 2; push_cast; ring

theorem refScale_eq (a : EReal) (f : ℕ) (hf : f ≤ 252) (h1 : pw f ≤ tOf a) (h2 : tOf a < pw (f + 1)) :
    refScale a = pw (if f = 0 then 127 else f + 1) := by
  unfold refScale
  by_cases h0 : f = 0
  · subst h0
    rw [if_pos h2, if_pos rfl, pw_eq 127 (by decide) (by decide)]
    norm_num
  · rw [if_neg (not_lt_of_ge ((pw_mono 1 f (le_refl _) (by omega) (by omega)).trans h1)), if_neg h0]
    simp only [pw_succ]
    apply le_antisymm
    · refine (Finset.fold_min_le _).mpr (.inr ⟨⟨f - 1, by omega⟩, Finset.mem_univ _, ?_⟩)
      simp only [show f - 1 + 2 = f + 1 by omega]
      rw [if_pos h2]
    · refine Finset.le_fold_min _ |>.mpr ⟨le_top, fun n _ => ?_⟩
      split
      · rename_i h
        by_contra hc
        have hn : n.val + 2 < f + 1 := by
          by_contra hn
          exact hc (pw_mono _ _ (by omega) (by omega) (by omega))
        exact absurd ((pw_mono (n.val + 2) f (by omega) (by omega) (by omega)).trans h1) (not_le.mpr h)
      · exact le_top

/-- THE SCALE of the kernel is the reference's, and a product with its inverse is a quotient by it. -/
theorem scale_eq {s : Shape} (a : FVec Ideal s .f32) (i : s.Idx) (h0 : 0 ≤ tOf (a i)) (h1 : tOf (a i) < pw 253) :
    scaleOf a i = refScale (a i) ∧ ∀ v : EReal, v * invOf a i = Ideal.div v (refScale (a i)) := by
  obtain ⟨f, hf, hle, hlt, e1, e2⟩ := scale_found a i h0 h1
  rw [e1, e2, refScale_eq _ f hf hle hlt]
  refine ⟨rfl, fun v => ?_⟩
  have h : ∀ g : ℕ, 1 ≤ g → g ≤ 253 → v * pw (254 - g) = Ideal.div v (pw g) := by
    intro g hg hg'
    rw [pw_eq _ (by omega) (by omega), pw_eq _ hg (by omega), Ideal.div_coe (zpow_ne_zero _ (by norm_num))]
    congr 2
    rw [one_div, ← zpow_neg]
    congr 1
    omega
  by_cases h0 : f = 0
  · rw [if_pos h0, if_pos h0]; exact h 127 (by decide) (by decide)
  · rw [if_neg h0, if_neg h0]
    have := h (f + 1) (by omega) (by omega)
    rwa [show 254 - (f + 1) = 253 - f by omega] at this

end Cert.KernelIdeal.Gen

end
-- ==== Proof.Spec.lean ====
module

public import proofs.«01_k».proof.Proof.Scale

@[expose] public section

/-! # The values both programs compute, at the extended reals -/

noncomputable section

namespace Cert.Spec

open Idealize.ShloMosaic Idealize.ShloMosaic.Tactic
open Cert.KernelIdeal.Gen (refScale tOf pw pw_eq)

variable (x : Fin 1792 → Fin 7168 → EReal) (g : Fin 7168 → EReal)

/-- A row's factor: one over the root of the mean of the squares, the small constant added. -/
def rs (i : Fin 1792) : EReal :=
  Ideal.rsqrt (Ideal.div (∑ k, x i k * x i k) (Ideal.ofBits .f32 0x45E00000#32) + Ideal.ofBits .f32 0x3727C5AC#32)

/-- The normalised value. -/
def y (i : Fin 1792) (k : Fin 7168) : EReal := x i k * rs x i * g k

/-- The largest magnitude of a group. -/
def top (v : Fin 128 → EReal) : EReal := (Finset.univ : Finset (Fin 128)).fold max ⊥ fun l => max (v l) (-v l)

/-- A row group's, -/
def aR (i : Fin 1792) (j : ℕ) (hj : j < 56) : EReal := top fun l => y x g i ⟨128 * j + l.val, by omega⟩
/-- and a column group's. -/
def aC (t : ℕ) (ht : t < 14) (k : Fin 7168) : EReal := top fun l => y x g ⟨128 * t + l.val, by omega⟩ k

/-- The code of a value under a scale: the quotient, clipped. -/
def code (v s : EReal) : EReal := min (Ideal.ofBits .f32 0x43E00000#32) (max (Ideal.ofBits .f32 0xC3E00000#32) (Ideal.div v s))

/-! ## The reductions at an index -/

theorem inf_top : Ideal.ofBits .f32 0x7F800000#32 = ⊤ := by simp [Ideal.ofBits, Ideal.ieee]
theorem inf_bot : Ideal.ofBits .f32 0xFF800000#32 = ⊥ := by simp [Ideal.ofBits, Ideal.ieee]

/-- A maximum over one axis. -/
theorem max_red {s t : Shape} {a : Fin s.rank} (src : FVec Ideal s .f32) (h : s.Reduces [a] t) (hφ : FKind.Formats .f32)
    (hacc : (0xFF800000#32 : BitVec 32) = FKind.maximumf.neutral .f32 hφ) (j : t.Idx) {n : ℕ} (hn : s.size a = n) (f : Fin n → EReal)
    (hf : ∀ l : Fin n, src (h.lift j (l.cast hn.symm)) = f l) :
    multiReduction .maximumf [a] t src 0xFF800000#32 h hφ hacc j = (Finset.univ : Finset (Fin n)).fold max ⊥ f := by
  subst hn
  rw [multiReduction_maximumf_eq_fold, show (FloatOps.ofBits (F := Ideal) .f32 0xFF800000#32) = ⊥ from inf_bot]
  exact (h.fold_filter_drop_single _ _ src j).trans (Finset.fold_congr fun l _ => hf l)

/-- A sum over one axis. -/
theorem sum_red {s t : Shape} {a : Fin s.rank} (src : FVec Ideal s .f32) (acc : BitVec 32) (h : s.Reduces [a] t) (hφ : FKind.Formats .f32)
    (hacc : acc = FKind.add.neutral .f32 hφ) (j : t.Idx) {n : ℕ} (hn : s.size a = n) (f : Fin n → EReal)
    (hf : ∀ l : Fin n, src (h.lift j (l.cast hn.symm)) = f l) :
    multiReduction .add [a] t src acc h hφ hacc j = ∑ l, f l := by
  subst hn
  exact (Ideal.multiReduction_add_single src acc h hφ hacc j).trans (Finset.sum_congr rfl fun l _ => hf l)

theorem lift2r {A B : ℕ} (h : (⟨2, ![A, B]⟩ : Shape).Reduces [1] ⟨1, ![A]⟩) (i : Fin A) (l : Fin B) : h.lift (ix1 i) l = ix2 i l := by
  funext a
  fin_cases a
  · rfl
  · rfl

theorem lift2c {A B : ℕ} (h : (⟨2, ![A, B]⟩ : Shape).Reduces [0] ⟨1, ![B]⟩) (j : Fin B) (l : Fin A) : h.lift (ix1 j) l = ix2 l j := by
  funext a
  fin_cases a
  · rfl
  · rfl

theorem topR {A : ℕ} (v : FVec Ideal ⟨2, ![A, 128]⟩ .f32) (h : (⟨2, ![A, 128]⟩ : Shape).Reduces [1] ⟨1, ![A]⟩) (hφ : FKind.Formats .f32)
    (hacc : (0xFF800000#32 : BitVec 32) = FKind.maximumf.neutral .f32 hφ) (i : Fin A) :
    multiReduction .maximumf [1] ⟨1, ![A]⟩ (absf v) 0xFF800000#32 h hφ hacc (ix1 i) = top fun l => v (ix2 i l) :=
  max_red (s := ⟨2, ![A, 128]⟩) (t := ⟨1, ![A]⟩) (a := (1 : Fin 2)) (n := 128) (absf v) h hφ hacc (ix1 i) rfl (fun l => max (v (ix2 i l)) (-v (ix2 i l))) fun l => congrArg (absf v) (lift2r h i l)

theorem topC {B : ℕ} (v : FVec Ideal ⟨2, ![128, B]⟩ .f32) (h : (⟨2, ![128, B]⟩ : Shape).Reduces [0] ⟨1, ![B]⟩) (hφ : FKind.Formats .f32)
    (hacc : (0xFF800000#32 : BitVec 32) = FKind.maximumf.neutral .f32 hφ) (j : Fin B) :
    multiReduction .maximumf [0] ⟨1, ![B]⟩ (absf v) 0xFF800000#32 h hφ hacc (ix1 j) = top fun l => v (ix2 l j) :=
  max_red (s := ⟨2, ![128, B]⟩) (t := ⟨1, ![B]⟩) (a := (0 : Fin 2)) (n := 128) (absf v) h hφ hacc (ix1 j) rfl (fun l => max (v (ix2 l j)) (-v (ix2 l j))) fun l => congrArg (absf v) (lift2c h j l)

theorem sumR {A B : ℕ} (v : FVec Ideal ⟨2, ![A, B]⟩ .f32) (acc : BitVec 32) (h : (⟨2, ![A, B]⟩ : Shape).Reduces [1] ⟨1, ![A]⟩) (hφ : FKind.Formats .f32)
    (hacc : acc = FKind.add.neutral .f32 hφ) (i : Fin A) :
    multiReduction .add [1] ⟨1, ![A]⟩ v acc h hφ hacc (ix1 i) = ∑ l, v (ix2 i l) :=
  sum_red (s := ⟨2, ![A, B]⟩) (t := ⟨1, ![A]⟩) (a := (1 : Fin 2)) (n := B) v acc h hφ hacc (ix1 i) rfl (fun l => v (ix2 i l)) fun l => congrArg v (lift2r h i l)

/-! ## The reference's scale, on vectors -/

theorem sel_lt {α : Type} (a b : EReal) (p q : α) : Scalar.select (FloatOps.cmpf (F := Ideal) (φ := .f32) .olt a b) p q = if a < b then p else q := by
  show (if Ideal.cmp .olt a b = 1#1 then p else q) = _
  by_cases h : a < b <;> simp [Ideal.cmp, h]
theorem sel_gt {α : Type} (a b : EReal) (p q : α) : Scalar.select (FloatOps.cmpf (F := Ideal) (φ := .f32) .ogt a b) p q = if b < a then p else q := by
  show (if Ideal.cmp .ogt a b = 1#1 then p else q) = _
  by_cases h : b < a <;> simp [Ideal.cmp, h]

/-- The scale from the value under it. -/
def scaleT (t : EReal) : EReal :=
  if t < pw 1 then 1
  else (Finset.univ : Finset (Fin 253)).fold min ⊤ fun n => if t < (((2 : ℝ) ^ ((n.val : ℤ) - 125) : ℝ) : EReal) then (((2 : ℝ) ^ ((n.val : ℤ) - 125) : ℝ) : EReal) else ⊤

theorem pw_one : Ideal.ofBits .f32 0x00800000#32 = pw 1 := rfl
theorem ones : Ideal.ofBits .f32 0x3F800000#32 = 1 := by
  rw [show (1 : EReal) = pw 127 from by rw [pw_eq 127 (by decide) (by decide)]; norm_num]
  rfl

/-- The reference's maximum of the magnitudes of a group, -/
theorem top3 {A B : ℕ} (v : FVec Ideal ⟨3, ![A, B, 128]⟩ .f32) (h : (⟨3, ![A, B, 128]⟩ : Shape).ReducesTo [2] ⟨2, ![A, B]⟩)
    (hu : 0 < (⟨0, ![]⟩ : Shape).numel) (i : Fin A) (j : Fin B) :
    Host.reduce FloatOps.maximumf (Host.absf v) (constant (F := Ideal) ⟨0, ![]⟩ .f32 0xFF800000#32) h hu (ix2 i j) = top fun l => v (ix3 i j l) := by
  rw [Host.reduce_eq_fold, show (constant (F := Ideal) ⟨0, ![]⟩ .f32 0xFF800000#32) (Shape.Idx.first hu) = ⊥ from inf_bot]
  exact h.fold_fiber_r3_a2 (ix2 i j) _ _ _

/-- and its minimum over the last of three axes. -/
theorem min3 {A B C : ℕ} (v : FVec Ideal ⟨3, ![A, B, C]⟩ .f32) (h : (⟨3, ![A, B, C]⟩ : Shape).ReducesTo [2] ⟨2, ![A, B]⟩)
    (hu : 0 < (⟨0, ![]⟩ : Shape).numel) (i : Fin A) (j : Fin B) :
    Host.reduce FloatOps.minimumf v (constant (F := Ideal) ⟨0, ![]⟩ .f32 0x7F800000#32) h hu (ix2 i j)
      = (Finset.univ : Finset (Fin C)).fold min ⊤ fun n => v (ix3 i j n) := by
  rw [Host.reduce_eq_fold, show (constant (F := Ideal) ⟨0, ![]⟩ .f32 0x7F800000#32) (Shape.Idx.first hu) = ⊤ from inf_top]
  exact h.fold_fiber_r3_a2 (ix2 i j) _ _ _

/-- A matrix with a last axis of size one added, -/
theorem cast3 {A B : ℕ} (v : FVec Ideal ⟨2, ![A, B]⟩ .f32) (h : (⟨2, ![A, B]⟩ : Shape).BroadcastsInDim ⟨3, ![A, B, 1]⟩ ![0, 1]) (i : Fin A) (j : Fin B) :
    broadcastInDim ⟨3, ![A, B, 1]⟩ ![0, 1] h v (ix3 i j (0 : Fin 1)) = v (ix2 i j) := by
  refine broadcastInDim_apply _ _ _ _ _ fun a => ?_
  fin_cases a
  · show i.val = if A = 1 then 0 else i.val
    split <;> omega
  · show j.val = if B = 1 then 0 else j.val
    split <;> omega

/-- and that axis repeated. -/
theorem spread3 {A B C : ℕ} (v : FVec Ideal ⟨3, ![A, B, 1]⟩ .f32) (h : (⟨3, ![A, B, 1]⟩ : Shape).BroadcastsInDim ⟨3, ![A, B, C]⟩ ![0, 1, 2])
    (i : Fin A) (j : Fin B) (n : Fin C) :
    broadcastInDim ⟨3, ![A, B, C]⟩ ![0, 1, 2] h v (ix3 i j n) = v (ix3 i j (0 : Fin 1)) := by
  refine broadcastInDim_apply _ _ _ _ _ fun a => ?_
  fin_cases a
  · show i.val = if A = 1 then 0 else i.val
    split <;> omega
  · show j.val = if B = 1 then 0 else j.val
    split <;> omega
  · rfl

/-- A power, where it is above the value. -/
theorem elem3 {A B : ℕ} (p : FVec Ideal ⟨1, ![253]⟩ .f32) (t : FVec Ideal ⟨3, ![A, B, 1]⟩ .f32)
    (h1 : (⟨1, ![253]⟩ : Shape).BroadcastsInDim ⟨3, ![1, 1, 253]⟩ ![2]) (h2 : (⟨3, ![1, 1, 253]⟩ : Shape).BroadcastsInDim ⟨3, ![A, B, 253]⟩ ![0, 1, 2])
    (h3 : (⟨1, ![253]⟩ : Shape).BroadcastsInDim ⟨3, ![A, B, 253]⟩ ![2]) (ht : (⟨3, ![A, B, 1]⟩ : Shape).BroadcastsInDim ⟨3, ![A, B, 253]⟩ ![0, 1, 2])
    (hs : (⟨0, ![]⟩ : Shape).BroadcastsInDim ⟨3, ![A, B, 253]⟩ ![]) (i : Fin A) (j : Fin B) (n : Fin 253) :
    select (cmpf .ogt (broadcastInDim ⟨3, ![A, B, 253]⟩ ![0, 1, 2] h2 (broadcastInDim ⟨3, ![1, 1, 253]⟩ ![2] h1 p))
        (broadcastInDim ⟨3, ![A, B, 253]⟩ ![0, 1, 2] ht t))
      (broadcastInDim ⟨3, ![A, B, 253]⟩ ![2] h3 p)
      (broadcastInDim ⟨3, ![A, B, 253]⟩ ![] hs (id (constant (F := Ideal) ⟨0, ![]⟩ .f32 0x7F800000#32))) (ix3 i j n)
      = if t (ix3 i j (0 : Fin 1)) < p (ix1 n) then p (ix1 n) else ⊤ := by
  have e1 : broadcastInDim ⟨3, ![A, B, 253]⟩ ![0, 1, 2] h2 (broadcastInDim ⟨3, ![1, 1, 253]⟩ ![2] h1 p) (ix3 i j n) = p (ix1 n) := by
    refine (broadcastInDim_apply _ _ _ _ (ix3 (0 : Fin 1) (0 : Fin 1) n) fun a => ?_).trans (broadcastInDim_apply _ _ _ _ _ fun a => ?_) <;> fin_cases a <;> rfl
  have e2 : broadcastInDim ⟨3, ![A, B, 253]⟩ ![2] h3 p (ix3 i j n) = p (ix1 n) := by
    refine broadcastInDim_apply _ _ _ _ _ fun a => ?_
    fin_cases a
    rfl
  refine (sel_gt (broadcastInDim ⟨3, ![A, B, 253]⟩ ![0, 1, 2] h2 (broadcastInDim ⟨3, ![1, 1, 253]⟩ ![2] h1 p) (ix3 i j n))
    (broadcastInDim ⟨3, ![A, B, 253]⟩ ![0, 1, 2] ht t (ix3 i j n)) _ _).trans ?_
  rw [e1, e2, spread3 t ht i j n]
  exact congrArg (fun z => if t (ix3 i j (0 : Fin 1)) < p (ix1 n) then p (ix1 n) else z) inf_top

/-- The reference's scale at an index. -/
theorem scale3 {A B : ℕ} (p : FVec Ideal ⟨1, ![253]⟩ .f32) (t : FVec Ideal ⟨3, ![A, B, 1]⟩ .f32)
    (h1 : (⟨1, ![253]⟩ : Shape).BroadcastsInDim ⟨3, ![1, 1, 253]⟩ ![2]) (h2 : (⟨3, ![1, 1, 253]⟩ : Shape).BroadcastsInDim ⟨3, ![A, B, 253]⟩ ![0, 1, 2])
    (h3 : (⟨1, ![253]⟩ : Shape).BroadcastsInDim ⟨3, ![A, B, 253]⟩ ![2]) (ht : (⟨3, ![A, B, 1]⟩ : Shape).BroadcastsInDim ⟨3, ![A, B, 253]⟩ ![0, 1, 2])
    (hs : (⟨0, ![]⟩ : Shape).BroadcastsInDim ⟨3, ![A, B, 253]⟩ ![]) (ho : (⟨0, ![]⟩ : Shape).BroadcastsInDim ⟨3, ![A, B, 1]⟩ ![])
    (hc : (⟨2, ![A, B]⟩ : Shape).BroadcastsInDim ⟨3, ![A, B, 1]⟩ ![0, 1]) (hr : (⟨3, ![A, B, 253]⟩ : Shape).ReducesTo [2] ⟨2, ![A, B]⟩)
    (hu : 0 < (⟨0, ![]⟩ : Shape).numel)
    (hpow : ∀ n : Fin 253, p (ix1 n) = (((2 : ℝ) ^ ((n.val : ℤ) - 125) : ℝ) : EReal)) (i : Fin A) (j : Fin B) :
    select (cmpf .olt t (broadcastInDim ⟨3, ![A, B, 1]⟩ ![] ho (constant (F := Ideal) ⟨0, ![]⟩ .f32 0x00800000#32)))
      (broadcastInDim ⟨3, ![A, B, 1]⟩ ![] ho (id (constant (F := Ideal) ⟨0, ![]⟩ .f32 0x3F800000#32)))
      (broadcastInDim ⟨3, ![A, B, 1]⟩ ![0, 1] hc (Host.reduce FloatOps.minimumf
        (select (cmpf .ogt (broadcastInDim ⟨3, ![A, B, 253]⟩ ![0, 1, 2] h2 (broadcastInDim ⟨3, ![1, 1, 253]⟩ ![2] h1 p))
            (broadcastInDim ⟨3, ![A, B, 253]⟩ ![0, 1, 2] ht t))
          (broadcastInDim ⟨3, ![A, B, 253]⟩ ![2] h3 p)
          (broadcastInDim ⟨3, ![A, B, 253]⟩ ![] hs (id (constant (F := Ideal) ⟨0, ![]⟩ .f32 0x7F800000#32))))
        (constant (F := Ideal) ⟨0, ![]⟩ .f32 0x7F800000#32) hr hu)) (ix3 i j (0 : Fin 1))
      = scaleT (t (ix3 i j (0 : Fin 1))) := by
  refine (sel_lt (t (ix3 i j (0 : Fin 1))) (Ideal.ofBits .f32 0x00800000#32) _ _).trans ?_
  rw [pw_one]
  unfold scaleT
  refine congrArg₂ (fun a b => if t (ix3 i j (0 : Fin 1)) < pw 1 then a else b) ones ?_
  refine (cast3 _ hc i j).trans ((min3 _ hr hu i j).trans (Finset.fold_congr fun n _ => ?_))
  refine (elem3 p t h1 h2 h3 ht hs i j n).trans ?_
  rw [hpow]

end Cert.Spec

end
-- ==== Proof.KernelRead.lean ====
module

public import proofs.«01_k».proof.Proof.Arrays
public import proofs.«01_k».proof.Proof.Spec
public import Idealize.ShloMosaic.Lib.MatmulPlain
public import Idealize.ShloMosaic.Lib.WordCmp

@[expose] public section

/-! # The kernel's values at the extended reals, entry by entry -/

noncomputable section

namespace Cert.KernelIdeal.Gen

open Idealize.ShloMosaic Idealize.ShloMosaic.TcCoe Idealize.ShloMosaic.Tactic

/-! ## Layout -/

theorem same {s : Shape} {α : Type} (v : s.Idx → α) (h : s.ShapeCasts s) (i : s.Idx) : shapeCast s v h i = v i :=
  shapeCast_apply _ _ _ i rfl

theorem castR {A : ℕ} (v : FVec Ideal ⟨1, ![A]⟩ .f32) (h : (⟨1, ![A]⟩ : Shape).ShapeCasts ⟨2, ![A, 1]⟩) (i : Fin A) :
    shapeCast ⟨2, ![A, 1]⟩ v h (ix2 i (0 : Fin 1)) = v (ix1 i) := by
  refine shapeCast_apply _ _ _ (ix1 i) ?_
  rw [Shape.rowMajor_val_one, Shape.rowMajor_val_two]
  show i.val = i.val * 1 + 0
  omega

theorem castC {A : ℕ} (v : FVec Ideal ⟨1, ![A]⟩ .f32) (h : (⟨1, ![A]⟩ : Shape).ShapeCasts ⟨2, ![1, A]⟩) (i : Fin A) :
    shapeCast ⟨2, ![1, A]⟩ v h (ix2 (0 : Fin 1) i) = v (ix1 i) := by
  refine shapeCast_apply _ _ _ (ix1 i) ?_
  rw [Shape.rowMajor_val_one, Shape.rowMajor_val_two]
  show i.val = 0 * A + i.val
  omega

theorem bcR {A B : ℕ} (v : FVec Ideal ⟨2, ![A, 1]⟩ .f32) (h : (⟨2, ![A, 1]⟩ : Shape).Broadcasts ⟨2, ![A, B]⟩) (i : Fin A) (l : Fin B) :
    broadcastTo ⟨2, ![A, B]⟩ v h (ix2 i l) = v (ix2 i (0 : Fin 1)) := by
  refine broadcastTo_apply _ _ _ _ fun a => ?_
  fin_cases a
  · show i.val = if A = 1 then 0 else i.val
    split <;> omega
  · rfl

theorem bcC {A B : ℕ} (v : FVec Ideal ⟨2, ![1, B]⟩ .f32) (h : (⟨2, ![1, B]⟩ : Shape).Broadcasts ⟨2, ![A, B]⟩) (i : Fin A) (l : Fin B) :
    broadcastTo ⟨2, ![A, B]⟩ v h (ix2 i l) = v (ix2 (0 : Fin 1) l) := by
  refine broadcastTo_apply _ _ _ _ fun a => ?_
  fin_cases a
  · rfl
  · show l.val = if B = 1 then 0 else l.val
    split <;> omega

/-- Two numbers of 32 bits compared as words. -/
theorem word_eq (a b : ℕ) (ha : a < 256) (hb : b < 256) : IntOp.cmpi .eq (BitVec.ofNat 32 a) (BitVec.ofNat 32 b) = if a = b then 1#1 else 0#1 := by
  have e : BitVec.ofNat 32 a = BitVec.ofNat 32 b ↔ a = b :=
    ⟨fun h => by have := congrArg BitVec.toNat h; simp only [BitVec.toNat_ofNat] at this; omega, fun h => h ▸ rfl⟩
  by_cases h : a = b
  · subst h
    simp [IntOp.cmpi]
  · have e' : (BitVec.ofNat 32 a == BitVec.ofNat 32 b) = false := beq_eq_false_iff_ne.mpr fun h' => h (e.mp h')
    simp [IntOp.cmpi, h, e']

theorem lane1 {A B : ℕ} (h : (⟨2, ![A, B]⟩ : Shape).Iotas .tc 32 [1]) (i : Fin A) (l : Fin B) : iota .tc ⟨2, ![A, B]⟩ 32 [1] h (ix2 i l) = BitVec.ofNat 32 l.val :=
  Eq.trans rfl (congrArg (BitVec.ofNat 32) (show 0 * B + l.val = l.val by omega))
theorem lane0 {A B : ℕ} (h : (⟨2, ![A, B]⟩ : Shape).Iotas .tc 32 [0]) (i : Fin A) (l : Fin B) : iota .tc ⟨2, ![A, B]⟩ 32 [0] h (ix2 i l) = BitVec.ofNat 32 i.val :=
  Eq.trans rfl (congrArg (BitVec.ofNat 32) (show 0 * A + i.val = i.val by omega))

/-! ## The sum by groups -/

/-- A row's sum taken lane by lane over the groups. -/
theorem regroup (f : ℕ → EReal) : ∑ l : Fin 128, ∑ k ∈ Finset.range 56, f (128 * k + l.val) = ∑ κ : Fin 7168, f κ.val := by
  rw [Finset.sum_comm, Finset.sum_range fun k => ∑ l : Fin 128, f (128 * k + l.val)]
  rw [← Fintype.sum_prod_type' fun (k : Fin 56) (l : Fin 128) => f (128 * k.val + l.val)]
  refine Fintype.sum_equiv (finProdFinEquiv : Fin 56 × Fin 128 ≃ Fin (56 * 128)) _ _ fun p => ?_
  show f (128 * p.1.val + p.2.val) = f (p.2.val + 128 * p.1.val)
  rw [Nat.add_comm]

/-- The mean: by the constant's idealised value and by the quotient. -/
theorem mean_eq (s : EReal) : s * Named.named (F := Ideal) (φ := .f32) κ "inv_d" 0x39124925#32 = Ideal.div s (Ideal.ofBits .f32 0x45E00000#32) := by
  rw [show Named.named (F := Ideal) (φ := .f32) κ "inv_d" 0x39124925#32 = ((1 / 7168 : ℝ) : EReal) from IdealRules.named_const.ideal_named_scalar _ _ _ _ rfl,
    show Ideal.ofBits .f32 0x45E00000#32 = ((7168 : ℝ) : EReal) from ?_, Ideal.div_coe (by norm_num)]
  simp [Ideal.ofBits, Ideal.ieee]
  rw [← EReal.coe_mul]
  norm_num

theorem root_at {s : Shape} (a b c : FVec Ideal s .f32) (i : s.Idx) : rsqrt (addf (mulf a b) c) i = Ideal.rsqrt (a i * b i + c i) := rfl

/-! ## A point's values -/

/-- The blocks a point reads are the rows from `128 * t` of `x`, and `gamma`. -/
structure Reads (X : ℕ → Vec Ideal S128x128 .bf16) (G : ℕ → Vec Ideal S1x128 .f32) (x : Fin 1792 → Fin 7168 → EReal) (g : Fin 7168 → EReal) (t : ℕ) (ht : t < 14) : Prop where
  hX : ∀ (k : ℕ) (hk : k < 56) (r l : Fin 128), X k (ix2 r l) = x ⟨128 * t + r.val, by omega⟩ ⟨128 * k + l.val, by omega⟩
  hG : ∀ (k : ℕ) (hk : k < 56) (l : Fin 128), G k (ix2 (0 : Fin 1) l) = g ⟨128 * k + l.val, by omega⟩

section

variable {X : ℕ → Vec Ideal S128x128 .bf16} {G : ℕ → Vec Ideal S1x128 .f32} {x : Fin 1792 → Fin 7168 → EReal} {g : Fin 7168 → EReal} {t : ℕ} {ht : t < 14}
  (R : Reads X G x g t ht)

include R

theorem xf_apply (k : ℕ) (hk : k < 56) (r l : Fin 128) : xf X k (ix2 r l) = x ⟨128 * t + r.val, by omega⟩ ⟨128 * k + l.val, by omega⟩ :=
  (same (X k) _ (ix2 r l)).trans (R.hX k hk r l)

/-- A row's squares, over all natural numbers. -/
theorem acc_apply (n : ℕ) (hn : n ≤ 56) (r l : Fin 128) (f : ℕ → EReal)
    (hf : ∀ κ (h : κ < 7168), f κ = x ⟨128 * t + r.val, by omega⟩ ⟨κ, h⟩ * x ⟨128 * t + r.val, by omega⟩ ⟨κ, h⟩) :
    acc X n (ix2 r l) = ∑ k ∈ Finset.range n, f (128 * k + l.val) := by
  induction n with
  | zero => exact Ideal.ofBits_zero_f32
  | succ n ih =>
    rw [Finset.sum_range_succ, ← ih (by omega) hf, hf (128 * n + l.val) (by omega)]
    show acc X n (ix2 r l) + xf X n (ix2 r l) * xf X n (ix2 r l) = _
    rw [xf_apply R n (by omega)]

theorem rs1_apply (r : Fin 128) : rs1 X (ix2 r (0 : Fin 1)) = Spec.rs x ⟨128 * t + r.val, by omega⟩ := by
  have e : shapeCast S128x1 (multiReduction .add [1] S128 (acc X 56) 0x00000000#32 reduces_S128x128_S128 (.inl rfl) rfl) shapeCasts_S128_S128x1 (ix2 r (0 : Fin 1))
      = ∑ κ : Fin 7168, x ⟨128 * t + r.val, by omega⟩ κ * x ⟨128 * t + r.val, by omega⟩ κ := by
    refine (castR _ _ r).trans ((Spec.sumR (acc X 56) _ _ _ _ r).trans ?_)
    obtain ⟨f, hf⟩ : ∃ f : ℕ → EReal, ∀ κ (h : κ < 7168), f κ = x ⟨128 * t + r.val, by omega⟩ ⟨κ, h⟩ * x ⟨128 * t + r.val, by omega⟩ ⟨κ, h⟩ :=
      ⟨fun κ => if h : κ < 7168 then x ⟨128 * t + r.val, by omega⟩ ⟨κ, h⟩ * x ⟨128 * t + r.val, by omega⟩ ⟨κ, h⟩ else 0, fun κ h => dif_pos h⟩
    have h1 : ∀ l : Fin 128, acc X 56 (ix2 r l) = ∑ k ∈ Finset.range 56, f (128 * k + l.val) := fun l => acc_apply R 56 le_rfl r l f hf
    have h2 : ∀ κ : Fin 7168, f κ.val = x ⟨128 * t + r.val, by omega⟩ κ * x ⟨128 * t + r.val, by omega⟩ κ := fun κ => hf κ.val κ.isLt
    simp only [h1, regroup, h2]
  unfold rs1 Spec.rs
  rw [← e, ← mean_eq]
  exact root_at _ _ _ _

theorem rsb_apply (r l : Fin 128) : rsb X (ix2 r l) = Spec.rs x ⟨128 * t + r.val, by omega⟩ :=
  (bcR _ _ r l).trans ((same _ _ _).trans (rs1_apply R r))

theorem yv_apply (k : ℕ) (hk : k < 56) (r l : Fin 128) : yv X G k (ix2 r l) = Spec.y x g ⟨128 * t + r.val, by omega⟩ ⟨128 * k + l.val, by omega⟩ := by
  have e : broadcastTo S128x128 (shapeCast S1x128 (G k) shapeCasts_S1x128_S1x128) broadcasts_S1x128_S128x128 (ix2 r l) = g ⟨128 * k + l.val, by omega⟩ :=
    (bcC (A := 128) (B := 128) (shapeCast S1x128 (G k) shapeCasts_S1x128_S1x128) _ r l).trans ((same (G k) _ _).trans (R.hG k hk l))
  unfold Spec.y
  rw [← e, ← rsb_apply R r l, ← xf_apply R k hk r l]
  rfl

theorem aRow_apply (k : ℕ) (hk : k < 56) (r : Fin 128) : aRow X G k (ix2 r (0 : Fin 1)) = Spec.aR x g ⟨128 * t + r.val, by omega⟩ k hk := by
  refine (castR _ _ r).trans ((Spec.topR (yv X G k) _ _ _ r).trans ?_)
  unfold Spec.aR
  exact congrArg Spec.top (funext fun l => yv_apply R k hk r l)

theorem aCol_apply (k : ℕ) (hk : k < 56) (l : Fin 128) : aCol X G k (ix2 (0 : Fin 1) l) = Spec.aC x g t ht ⟨128 * k + l.val, by omega⟩ := by
  refine (castC _ _ l).trans ((Spec.topC (yv X G k) _ _ _ l).trans ?_)
  unfold Spec.aC
  exact congrArg Spec.top (funext fun r => yv_apply R k hk r l)

/-- The largest magnitudes are such that the scale is a normal number. -/
structure Fits (x : Fin 1792 → Fin 7168 → EReal) (g : Fin 7168 → EReal) : Prop where
  row : ∀ (i : Fin 1792) (j : ℕ) (hj : j < 56), 0 ≤ tOf (Spec.aR x g i j hj) ∧ tOf (Spec.aR x g i j hj) < pw 253
  col : ∀ (t : ℕ) (ht : t < 14) (k : Fin 7168), 0 ≤ tOf (Spec.aC x g t ht k) ∧ tOf (Spec.aC x g t ht k) < pw 253

omit R in
theorem codes_at (v w : FVec Ideal S128x128 .f32) (i : S128x128.Idx) (s : EReal) (h : v i * w i = Ideal.div (v i) s) : codes v w i = Spec.code (v i) s := by
  show min (Ideal.ofBits .f32 0x43E00000#32) (max (Ideal.ofBits .f32 0xC3E00000#32) (v i * w i)) = _
  rw [h]
  rfl

variable (H : Fits x g)

include H

theorem cRow_apply (k : ℕ) (hk : k < 56) (r l : Fin 128) : cRow X G k (ix2 r l)
    = Spec.code (Spec.y x g ⟨128 * t + r.val, by omega⟩ ⟨128 * k + l.val, by omega⟩) (refScale (Spec.aR x g ⟨128 * t + r.val, by omega⟩ k hk)) := by
  have ha := aRow_apply R k hk r
  obtain ⟨h0, h1⟩ := H.row ⟨128 * t + r.val, by omega⟩ k hk
  rw [← ha] at h0 h1 ⊢
  rw [← yv_apply R k hk r l]
  unfold cRow
  refine codes_at _ _ _ _ ?_
  rw [bcR (A := 128) (B := 128) (invOf (aRow X G k)) _ r l]
  exact (scale_eq _ _ h0 h1).2 _

theorem cCol_apply (k : ℕ) (hk : k < 56) (r l : Fin 128) : cCol X G k (ix2 r l)
    = Spec.code (Spec.y x g ⟨128 * t + r.val, by omega⟩ ⟨128 * k + l.val, by omega⟩) (refScale (Spec.aC x g t ht ⟨128 * k + l.val, by omega⟩)) := by
  have ha := aCol_apply R k hk l
  obtain ⟨h0, h1⟩ := H.col t ht ⟨128 * k + l.val, by omega⟩
  rw [← ha] at h0 h1 ⊢
  rw [← yv_apply R k hk r l]
  unfold cCol
  refine codes_at _ _ _ _ ?_
  rw [bcC (A := 128) (B := 128) (invOf (aCol X G k)) _ r l]
  exact (scale_eq _ _ h0 h1).2 _

/-- The column scales. -/
theorem colScale_apply (k : ℕ) (hk : k < 56) (l : Fin 128) :
    scaleOf (aCol X G k) (ix2 (0 : Fin 1) l) = refScale (Spec.aC x g t ht ⟨128 * k + l.val, by omega⟩) := by
  have ha := aCol_apply R k hk l
  obtain ⟨h0, h1⟩ := H.col t ht ⟨128 * k + l.val, by omega⟩
  rw [← ha] at h0 h1 ⊢
  exact (scale_eq _ _ h0 h1).1

omit H in
theorem amax_apply (n : ℕ) (hn : n ≤ 56) (r l : Fin 128) (hl : l.val < n) :
    amax X G n (ix2 r l) = Spec.aR x g ⟨128 * t + r.val, by omega⟩ l.val (by omega) := by
  induction n with
  | zero => omega
  | succ n ih =>
    have e : amax X G (n + 1) (ix2 r l) = if l.val = n then aRow X G n (ix2 r (0 : Fin 1)) else amax X G n (ix2 r l) := by
      have e1 : broadcastTo S128x128 (shapeCast S128x1 (aRow X G n) shapeCasts_S128x1_S128x1) broadcasts_S128x1_S128x128 (ix2 r l) = aRow X G n (ix2 r (0 : Fin 1)) :=
        (bcR (A := 128) (B := 128) (shapeCast S128x1 (aRow X G n) shapeCasts_S128x1_S128x1) _ r l).trans (same _ _ _)
      have e2 : cmpi .eq (iota .tc S128x128 32 [1] iota_S128x128_d1_w32) (broadcast S128x128 (BitVec.ofNat 32 n)) (ix2 r l) = if l.val = n then 1#1 else 0#1 := by
        rw [← word_eq l.val n (by omega) (by omega)]
        show IntOp.cmpi .eq (iota .tc S128x128 32 [1] iota_S128x128_d1_w32 (ix2 r l)) (BitVec.ofNat 32 n) = _
        rw [lane1 (A := 128) (B := 128) iota_S128x128_d1_w32 r l]
      rw [← e1]
      show Scalar.select (cmpi .eq (iota .tc S128x128 32 [1] iota_S128x128_d1_w32) (broadcast S128x128 (BitVec.ofNat 32 n)) (ix2 r l)) _ _ = _
      rw [e2]
      by_cases h : l.val = n
      · rw [if_pos h, if_pos h]
        rfl
      · rw [if_neg h, if_neg h]
        rfl
    rw [e]
    split
    · rename_i h
      subst h
      exact aRow_apply R _ _ r
    · exact ih (by omega) (by omega)

theorem rowScales_apply (j : Fin 56) (r : Fin 128) :
    rowScales X G (ix2 j r) = refScale (Spec.aR x g ⟨128 * t + r.val, by omega⟩ j.val j.isLt) := by
  have ha := amax_apply R 56 le_rfl r ⟨j.val, by omega⟩ j.isLt
  obtain ⟨h0, h1⟩ := H.row ⟨128 * t + r.val, by omega⟩ j.val j.isLt
  rw [← ha] at h0 h1 ⊢
  refine Eq.trans ?_ (scale_eq _ _ h0 h1).1
  unfold rowScales
  generalize scaleOf (amax X G 56) = v
  pointwise

omit H in
theorem rsRow_apply (l : Fin 128) : rsRow X (ix2 (0 : Fin 1) l) = Spec.rs x ⟨128 * t + l.val, by omega⟩ := by
  rw [← rsb_apply R l 0]
  unfold rsRow
  generalize rsb X = v
  pointwise

theorem O2_apply (r : Fin 128) (k : Fin 7168) : O2 X G (ix2 r k)
    = Spec.code (Spec.y x g ⟨128 * t + r.val, by omega⟩ k) (refScale (Spec.aR x g ⟨128 * t + r.val, by omega⟩ (k.val / 128) (by omega))) := by
  have e := cRow_apply R H (k.val / 128) (by omega) r ⟨k.val % 128, by omega⟩
  simp only [show 128 * (k.val / 128) + k.val % 128 = k.val by omega] at e
  exact e

omit R H in
theorem eye_apply (i j : Fin 256) : k0_pay68 (F := Ideal) (ix2 i j) = if i = j then 1 else 0 := by
  have e : cmpi .eq (iota .tc S256x256 32 [0] iota_S256x256_d0_w32) (iota .tc S256x256 32 [1] iota_S256x256_d1_w32) (ix2 i j) = if i.val = j.val then 1#1 else 0#1 := by
    rw [← word_eq i.val j.val i.isLt j.isLt]
    show IntOp.cmpi .eq (iota .tc S256x256 32 [0] iota_S256x256_d0_w32 (ix2 i j)) (iota .tc S256x256 32 [1] iota_S256x256_d1_w32 (ix2 i j)) = _
    rw [lane0 (A := 256) (B := 256) iota_S256x256_d0_w32 i j, lane1 (A := 256) (B := 256) iota_S256x256_d1_w32 i j]
  unfold k0_pay68
  show (((((cmpi .eq (iota .tc S256x256 32 [0] iota_S256x256_d0_w32) (iota .tc S256x256 32 [1] iota_S256x256_d1_w32) (ix2 i j)).setWidth 32).toInt : ℤ) : ℝ) : EReal) = _
  rw [e]
  by_cases h : i = j
  · rw [if_pos h, if_pos (congrArg _ h)]
    simp
  · rw [if_neg h, if_neg (fun h' => h (Fin.ext h'))]
    simp

omit R H in
/-- A product with the identity turns the tile. -/
theorem turn_apply (q : FVec Ideal S256x256 .fp8e4m3) (i j : Fin 256) : turn q (ix2 i j) = q (ix2 j i) := by
  unfold turn
  refine (Ideal.matmul_transposedRhs_apply (M := 256) (K := 256) (N := 256) none (k0_pay68 (F := Ideal)) q (constant S256x256 .f32 0x00000000#32) i j).trans ?_
  show constant (F := Ideal) S256x256 .f32 0x00000000#32 (ix2 i j) + ∑ k : Fin 256, k0_pay68 (F := Ideal) (ix2 i k) * q (ix2 j k) = _
  rw [show constant (F := Ideal) S256x256 .f32 0x00000000#32 (ix2 i j) = 0 from Ideal.ofBits_zero_f32, zero_add, Finset.sum_eq_single i]
  · rw [eye_apply, if_pos rfl, one_mul]
  · intro k _ hk
    rw [eye_apply, if_neg (Ne.symm hk), zero_mul]
  · intro h
    exact absurd (Finset.mem_univ i) h

theorem O4_apply (k : Fin 7168) (r : Fin 128) : O4 X G (ix2 k r)
    = Spec.code (Spec.y x g ⟨128 * t + r.val, by omega⟩ k) (refScale (Spec.aC x g t ht k)) := by
  have e := cCol_apply R H (k.val / 128) (by omega) r ⟨k.val % 128, by omega⟩
  simp only [show 128 * (k.val / 128) + k.val % 128 = k.val by omega] at e
  rw [← e]
  have h1 : 4 * (k.val / 512) + (k.val / 256 % 2 * 128 + r.val) / 128 * 2 + k.val % 256 / 128 = k.val / 128 := by omega
  unfold O4
  refine (turn_apply _ _ _).trans ?_
  unfold Qv
  refine (congrArg (fun n => cCol X G n _) h1).trans (congrArg (cCol X G (k.val / 128)) (ext2 rfl ?_ ?_))
  · show (k.val / 256 % 2 * 128 + r.val) % 128 = r.val
    omega
  · show k.val % 256 % 128 = k.val % 128
    omega

end

end Cert.KernelIdeal.Gen

end
-- ==== Proof.Bound.lean ====
module

public import proofs.«01_k».proof.Proof.KernelRead

@[expose] public section

/-! # How large the normalised values can be

A row's factor makes each value of the row at most `√7168` in size, whatever `x` holds (a row with an infinity has the
factor zero), so with finite `gamma` no group's largest magnitude reaches the last power of two but one. -/

noncomputable section

namespace Cert.KernelIdeal.Gen

open Idealize.ShloMosaic

theorem max_f32 : Ideal.ofBits .f32 0x7F7FFFFF#32 = (((2 ^ 24 - 1) * 2 ^ 104 : ℝ) : EReal) := by
  rw [show ((2 ^ 24 - 1) * 2 ^ 104 : ℝ) = 16777215 * 2 ^ 104 by norm_num]
  simp [Ideal.ofBits, Ideal.ieee]

theorem inv_448 : Ideal.ofBits .f32 0x3B124925#32 = ((9586981 / 2 ^ 32 : ℝ) : EReal) := by
  simp [Ideal.ofBits, Ideal.ieee]
  rw [← EReal.coe_mul]
  norm_num

theorem small : ∃ e : ℝ, 0 < e ∧ Ideal.ofBits .f32 0x3727C5AC#32 = (e : EReal) := by
  refine ⟨10995116 * (2 ^ 40 : ℝ)⁻¹, by norm_num, ?_⟩
  simp [Ideal.ofBits, Ideal.ieee]

theorem seven : Ideal.ofBits .f32 0x45E00000#32 = ((7168 : ℝ) : EReal) := by
  simp [Ideal.ofBits, Ideal.ieee]
  rw [← EReal.coe_mul]
  norm_num

theorem sq_nonneg' (a : EReal) : 0 ≤ a * a := by
  induction a using EReal.rec with
  | bot => simp
  | top => simp
  | coe a => exact_mod_cast mul_self_nonneg a

variable (x : Fin 1792 → Fin 7168 → EReal) (g : Fin 7168 → EReal)

/-- A value times its row's factor is a real number of size at most 85. -/
theorem unit_le (i : Fin 1792) (k : Fin 7168) : ∃ r : ℝ, x i k * Spec.rs x i = (r : EReal) ∧ |r| ≤ 85 := by
  obtain ⟨e, he, hε⟩ := small
  have hle : x i k * x i k ≤ ∑ κ, x i κ * x i κ := Finset.single_le_sum (f := fun κ => x i κ * x i κ) (fun κ _ => sq_nonneg' _) (Finset.mem_univ k)
  have h0 : 0 ≤ ∑ κ, x i κ * x i κ := (sq_nonneg' _).trans hle
  unfold Spec.rs
  rw [hε, seven, Ideal.div_coe (by norm_num)]
  generalize (∑ κ, x i κ * x i κ) = S at hle h0
  induction S using EReal.rec with
  | bot => exact absurd h0 (by simp)
  | top =>
    refine ⟨0, ?_, by norm_num⟩
    rw [EReal.top_mul_coe_of_pos (by norm_num), EReal.top_add_coe, Ideal.rsqrt_top, mul_zero]
    rfl
  | coe s =>
    generalize x i k = a at hle
    induction a using EReal.rec with
    | bot => exact absurd hle (by simp)
    | top => exact absurd hle (by simp)
    | coe a =>
      have hs : a * a ≤ s := by exact_mod_cast hle
      have hD : 0 < s * (1 / 7168) + e := by nlinarith [mul_self_nonneg a]
      rw [← EReal.coe_mul, ← EReal.coe_add, Ideal.rsqrt_coe, if_neg (not_lt.mpr hD.le), if_neg hD.ne', ← EReal.coe_mul]
      refine ⟨_, rfl, abs_le_of_sq_le_sq ?_ (by norm_num)⟩
      rw [mul_pow, inv_pow, Real.sq_sqrt hD.le, ← div_eq_mul_inv, div_le_iff₀ hD]
      nlinarith

variable (hg : ∀ k, max (g k) (-g k) ≤ Ideal.ofBits .f32 0x7F7FFFFF#32)

include hg

theorem y_le (i : Fin 1792) (k : Fin 7168) : max (Spec.y x g i k) (-Spec.y x g i k) ≤ ((85 * 2 ^ 128 : ℝ) : EReal) ∧ 0 ≤ max (Spec.y x g i k) (-Spec.y x g i k) := by
  obtain ⟨r, hr, hr'⟩ := unit_le x i k
  have h := hg k
  unfold Spec.y
  rw [hr]
  rw [max_f32] at h
  generalize g k = b at h
  induction b using EReal.rec with
  | bot => exact absurd ((EReal.coe_lt_top _).trans_le ((le_max_right ⊥ (-⊥ : EReal)).trans h)) (lt_irrefl _)
  | top => exact absurd ((EReal.coe_lt_top _).trans_le ((le_max_left ⊤ (-⊤ : EReal)).trans h)) (lt_irrefl _)
  | coe b =>
    have h1 : |b| ≤ (2 ^ 24 - 1) * 2 ^ 104 := by
      rw [← EReal.coe_neg, ← EReal.coe_strictMono.monotone.map_max] at h
      exact_mod_cast h
    have e : max ((r : EReal) * (b : EReal)) (-((r : EReal) * (b : EReal))) = ((|r * b| : ℝ) : EReal) := by
      rw [← EReal.coe_mul, ← EReal.coe_neg, ← EReal.coe_strictMono.monotone.map_max]
      rfl
    rw [e]
    refine ⟨?_, by exact_mod_cast abs_nonneg (r * b)⟩
    rw [EReal.coe_le_coe_iff, abs_mul]
    refine (mul_le_mul hr' h1 (abs_nonneg _) (by norm_num)).trans (by norm_num)

omit x g hg in
theorem top_fits (v : Fin 128 → EReal) (h : ∀ l, max (v l) (-v l) ≤ ((85 * 2 ^ 128 : ℝ) : EReal) ∧ 0 ≤ max (v l) (-v l)) :
    0 ≤ tOf (Spec.top v) ∧ tOf (Spec.top v) < pw 253 := by
  have h1 : Spec.top v ≤ ((85 * 2 ^ 128 : ℝ) : EReal) := (Finset.fold_max_le _).mpr ⟨bot_le, fun l _ => (h l).1⟩
  have h0 : 0 ≤ Spec.top v := (Finset.le_fold_max _).mpr (Or.inr ⟨0, Finset.mem_univ _, (h 0).2⟩)
  unfold tOf
  rw [pw_eq 253 (by decide) (by decide), inv_448]
  generalize Spec.top v = T at h0 h1
  induction T using EReal.rec with
  | bot => exact absurd h0 (by simp)
  | top => exact absurd ((EReal.coe_lt_top _).trans_le h1) (lt_irrefl _)
  | coe T =>
    rw [EReal.coe_le_coe_iff] at h1
    have h0 : 0 ≤ T := by exact_mod_cast h0
    rw [← EReal.coe_mul, EReal.coe_lt_coe_iff]
    refine ⟨by exact_mod_cast mul_nonneg h0 (by norm_num), ?_⟩
    refine (mul_le_mul_of_nonneg_right h1 (by norm_num)).trans_lt ?_
    norm_num

theorem fits : Fits x g where
  row i j hj := top_fits _ fun l => y_le x g hg i _
  col t ht k := top_fits _ fun l => y_le x g hg _ k

end Cert.KernelIdeal.Gen

end
-- ==== Proof.RefRead.lean ====
module

public import proofs.«01_k».proof.Proof.Spec
public import proofs.«01_k».proof.Proof.Gen.ReferenceIdeal.Run

@[expose] public section

/-! # What the reference computes, entry by entry -/

set_option maxRecDepth 16384

noncomputable section

namespace Cert.ReferenceIdeal.Gen

open Cert.ReferenceIdeal Idealize.ShloMosaic Idealize.ShloMosaic.TcCoe Idealize.ShloMosaic.Tactic Idealize.SL.Sem
open Cert.KernelIdeal.Gen (refScale tOf pw)

variable (a0 : FVec Ideal S2x896x7168 .bf16) (a1 : FVec Ideal S7168 .f32)

/-! ## The reference's arrays -/

/-- The rows of the argument, as an array. -/
def hX : FVec Ideal S1792x7168 .f32 := shapeCast S1792x7168 (extf .f32 a0 bitsLt_bf16_f32) shapeCasts_S2x896x7168_S1792x7168

/-- The rows' factors. -/
def hF : FVec Ideal S1792x1 .f32 :=
  Host.rsqrt (addf (Host.divf (broadcastInDim S1792x1 ![0] bcast_S1792_S1792x1_0 (Host.reduceAdd (mulf (hX a0) (hX a0)) (constant S_ .f32 0x00000000#32) reducesTo_S1792x7168_S1792_d1 h_S_))
    (broadcastInDim S1792x1 ![] bcast_S_S1792x1 (constant S_ .f32 0x45E00000#32))) (broadcastInDim S1792x1 ![] bcast_S_S1792x1 (constant S_ .f32 0x3727C5AC#32)))

/-- The normalised values. -/
def hY : FVec Ideal S1792x7168 .f32 :=
  mulf (mulf (hX a0) (broadcastInDim S1792x7168 ![0, 1] bcast_S1792x1_S1792x7168_0_1 (hF a0)))
    (broadcastInDim S1792x7168 ![0, 1] bcast_S1x7168_S1792x7168_0_1 (shapeCast S1x7168 a1 shapeCasts_S7168_S1x7168))

/-- The powers of two. -/
def hP : FVec Ideal S253 .f32 :=
  Host.powf (broadcastInDim S253 ![] bcast_S_S253 (constant S_ .f32 0x40000000#32))
    (sitofp .f32 (addi (broadcastInDim S253 ![] bcast_S_S253 (constantI S_ 32 4294967171#32)) (iotaInDim S253 32 0)))

/-- The normalised values by row groups, -/
def hV : FVec Ideal S1792x56x128 .f32 := shapeCast S1792x56x128 (hY a0 a1) shapeCasts_S1792x7168_S1792x56x128

/-- the value under each group's scale, -/
def hT : FVec Ideal S1792x56x1 .f32 :=
  mulf (broadcastInDim S1792x56x1 ![0, 1] bcast_S1792x56_S1792x56x1_0_1 (Host.reduce FloatOps.maximumf (Host.absf (hV a0 a1)) (constant S_ .f32 0xFF800000#32) reducesTo_S1792x56x128_S1792x56_d2 h_S_))
    (broadcastInDim S1792x56x1 ![] bcast_S_S1792x56x1 (constant S_ .f32 0x3B124925#32))

/-- and the scale. -/
def hS : FVec Ideal S1792x56x1 .f32 :=
  select (cmpf .olt (hT a0 a1) (broadcastInDim S1792x56x1 ![] bcast_S_S1792x56x1 (constant S_ .f32 0x00800000#32)))
    (broadcastInDim S1792x56x1 ![] bcast_S_S1792x56x1 (id (constant S_ .f32 0x3F800000#32)))
    (broadcastInDim S1792x56x1 ![0, 1] bcast_S1792x56_S1792x56x1_0_1 (Host.reduce FloatOps.minimumf
      (select (cmpf .ogt (broadcastInDim S1792x56x253 ![0, 1, 2] bcast_S1x1x253_S1792x56x253_0_1_2 (broadcastInDim S1x1x253 ![2] bcast_S253_S1x1x253_2 hP))
          (broadcastInDim S1792x56x253 ![0, 1, 2] bcast_S1792x56x1_S1792x56x253_0_1_2 (hT a0 a1)))
        (broadcastInDim S1792x56x253 ![2] bcast_S253_S1792x56x253_2 hP)
        (broadcastInDim S1792x56x253 ![] bcast_S_S1792x56x253 (id (constant S_ .f32 0x7F800000#32))))
      (constant S_ .f32 0x7F800000#32) reducesTo_S1792x56x253_S1792x56_d2 h_S_))

/-- The same by column groups: the values, -/
def hV' : FVec Ideal S7168x14x128 .f32 :=
  shapeCast S7168x14x128 (transpose S7168x1792 [1, 0] (hY a0 a1) transposes_S1792x7168_S7168x1792_1_0) shapeCasts_S7168x1792_S7168x14x128

/-- the value under each group's scale, -/
def hT' : FVec Ideal S7168x14x1 .f32 :=
  mulf (broadcastInDim S7168x14x1 ![0, 1] bcast_S7168x14_S7168x14x1_0_1 (Host.reduce FloatOps.maximumf (Host.absf (hV' a0 a1)) (constant S_ .f32 0xFF800000#32) reducesTo_S7168x14x128_S7168x14_d2 h_S_))
    (broadcastInDim S7168x14x1 ![] bcast_S_S7168x14x1 (constant S_ .f32 0x3B124925#32))

/-- and the scale. -/
def hS' : FVec Ideal S7168x14x1 .f32 :=
  select (cmpf .olt (hT' a0 a1) (broadcastInDim S7168x14x1 ![] bcast_S_S7168x14x1 (constant S_ .f32 0x00800000#32)))
    (broadcastInDim S7168x14x1 ![] bcast_S_S7168x14x1 (id (constant S_ .f32 0x3F800000#32)))
    (broadcastInDim S7168x14x1 ![0, 1] bcast_S7168x14_S7168x14x1_0_1 (Host.reduce FloatOps.minimumf
      (select (cmpf .ogt (broadcastInDim S7168x14x253 ![0, 1, 2] bcast_S1x1x253_S7168x14x253_0_1_2 (broadcastInDim S1x1x253 ![2] bcast_S253_S1x1x253_2 hP))
          (broadcastInDim S7168x14x253 ![0, 1, 2] bcast_S7168x14x1_S7168x14x253_0_1_2 (hT' a0 a1)))
        (broadcastInDim S7168x14x253 ![2] bcast_S253_S7168x14x253_2 hP)
        (broadcastInDim S7168x14x253 ![] bcast_S_S7168x14x253 (id (constant S_ .f32 0x7F800000#32))))
      (constant S_ .f32 0x7F800000#32) reducesTo_S7168x14x253_S7168x14_d2 h_S_))

/-! The five results. -/

def G2 : FVec Ideal S1792x7168 .fp8e4m3 :=
  shapeCast S1792x7168 (Host.convertf .fp8e4m3 (minimumf (broadcastInDim S1792x56x128 ![] bcast_S_S1792x56x128 (id (constant S_ .f32 0x43E00000#32)))
    (maximumf (broadcastInDim S1792x56x128 ![] bcast_S_S1792x56x128 (id (constant S_ .f32 0xC3E00000#32)))
      (Host.divf (hV a0 a1) (broadcastInDim S1792x56x128 ![0, 1, 2] bcast_S1792x56x1_S1792x56x128_0_1_2 (hS a0 a1)))))) shapeCasts_S1792x56x128_S1792x7168

def G3 : FVec Ideal S56x1792 .f32 :=
  transpose S56x1792 [1, 0] (shapeCast S1792x56 (hS a0 a1) shapeCasts_S1792x56x1_S1792x56) transposes_S1792x56_S56x1792_1_0

def G4 : FVec Ideal S7168x1792 .fp8e4m3 :=
  shapeCast S7168x1792 (Host.convertf .fp8e4m3 (minimumf (broadcastInDim S7168x14x128 ![] bcast_S_S7168x14x128 (id (constant S_ .f32 0x43E00000#32)))
    (maximumf (broadcastInDim S7168x14x128 ![] bcast_S_S7168x14x128 (id (constant S_ .f32 0xC3E00000#32)))
      (Host.divf (hV' a0 a1) (broadcastInDim S7168x14x128 ![0, 1, 2] bcast_S7168x14x1_S7168x14x128_0_1_2 (hS' a0 a1)))))) shapeCasts_S7168x14x128_S7168x1792

def G5 : FVec Ideal S14x7168 .f32 :=
  transpose S14x7168 [1, 0] (shapeCast S7168x14 (hS' a0 a1) shapeCasts_S7168x14x1_S7168x14) transposes_S7168x14_S14x7168_1_0

def G6 : FVec Ideal S14x128 .f32 := shapeCast S14x128 (hF a0) shapeCasts_S1792x1_S14x128

/-! ## The run -/

/-- The run, with its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68) = G2 (m ((c.tc : Thread nD τ).loc main_arg0)) (m ((c.tc : Thread nD τ).loc main_arg1))
      ∧ r.2.mem ((c.tc : Thread nD τ).loc main_v70) = G3 (m ((c.tc : Thread nD τ).loc main_arg0)) (m ((c.tc : Thread nD τ).loc main_arg1))
      ∧ r.2.mem ((c.tc : Thread nD τ).loc main_v71) = G4 (m ((c.tc : Thread nD τ).loc main_arg0)) (m ((c.tc : Thread nD τ).loc main_arg1))
      ∧ r.2.mem ((c.tc : Thread nD τ).loc main_v73) = G5 (m ((c.tc : Thread nD τ).loc main_arg0)) (m ((c.tc : Thread nD τ).loc main_arg1))
      ∧ r.2.mem ((c.tc : Thread nD τ).loc main_v74) = G6 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨h0, h1, h2, h3, h4, k0, k1⟩ := h c
    refine ⟨h0.trans ?_, h1.trans ?_, h2.trans ?_, h3.trans ?_, h4.trans ?_, k0, k1⟩
    · unfold Value.res_main_v68 G2 hS hT hV hY hF hX hP
      rfl
    · unfold G3 hS hT hV hY hF hX hP
      rfl
    · unfold Value.res_main_v71 G4 hS' hT' hV' hY hF hX hP
      rfl
    · unfold G5 hS' hT' hV' hY hF hX hP
      rfl
    · unfold G6 hF hX
      rfl) (Value.run m ρ)

/-- The arguments end unchanged and every counter at zero: the reference has none. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2.2.2.2, sem_eq_zero_of_no_sems (by decide) r.2⟩) (run m ρ)

/-! ## Its entries -/

/-- The rows of the argument. -/
def rx : Fin 1792 → Fin 7168 → EReal := fun i k => hX a0 (ix2 i k)
/-- The weights. -/
def rg : Fin 7168 → EReal := fun k => shapeCast S1x7168 a1 shapeCasts_S7168_S1x7168 (ix2 (n0 := 1) (n1 := 7168) 0 k)

theorem sum2 {A B : ℕ} (v : FVec Ideal ⟨2, ![A, B]⟩ .f32) (h : (⟨2, ![A, B]⟩ : Shape).ReducesTo [1] ⟨1, ![A]⟩) (hu : 0 < (⟨0, ![]⟩ : Shape).numel) (i : Fin A) :
    Host.reduceAdd v (constant (F := Ideal) ⟨0, ![]⟩ .f32 0x00000000#32) h hu (ix1 i) = ∑ k, v (ix2 i k) := by
  refine (Ideal.hostReduceAdd_r2_a1 h v _ (ix1 i)).trans ?_
  rw [show (constant (F := Ideal) ⟨0, ![]⟩ .f32 0x00000000#32) (Shape.Idx.first hu) = 0 from by
    show Ideal.ofBits .f32 0x00000000#32 = 0
    simp [Ideal.ofBits, Ideal.ieee]]
  exact zero_add _

theorem hF_apply (i : Fin 1792) : hF a0 (ix2 i (0 : Fin 1)) = Spec.rs (rx a0) i := by
  have e := sum2 (mulf (hX a0) (hX a0)) reducesTo_S1792x7168_S1792_d1 h_S_ i
  have b : broadcastInDim S1792x1 ![0] bcast_S1792_S1792x1_0 (Host.reduceAdd (mulf (hX a0) (hX a0)) (constant (F := Ideal) S_ .f32 0x00000000#32) reducesTo_S1792x7168_S1792_d1 h_S_) (ix2 i (0 : Fin 1))
      = ∑ k, rx a0 i k * rx a0 i k := by
    refine (broadcastInDim_apply _ _ _ _ (ix1 i) fun a => ?_).trans e
    fin_cases a
    rfl
  unfold hF Spec.rs
  rw [← b]
  rfl

theorem hY_apply (i : Fin 1792) (k : Fin 7168) : hY a0 a1 (ix2 i k) = Spec.y (rx a0) (rg a1) i k := by
  have e1 : broadcastInDim S1792x7168 ![0, 1] bcast_S1792x1_S1792x7168_0_1 (hF a0) (ix2 i k) = Spec.rs (rx a0) i := by
    refine (broadcastInDim_apply _ _ _ _ (ix2 i (0 : Fin 1)) fun a => ?_).trans (hF_apply a0 i)
    fin_cases a <;> rfl
  have e2 : broadcastInDim S1792x7168 ![0, 1] bcast_S1x7168_S1792x7168_0_1 (shapeCast S1x7168 a1 shapeCasts_S7168_S1x7168) (ix2 i k) = rg a1 k := by
    refine broadcastInDim_apply _ _ _ _ (ix2 (n0 := 1) (n1 := 7168) 0 k) fun a => ?_
    fin_cases a <;> rfl
  unfold hY Spec.y
  rw [← e1, ← e2]
  rfl

theorem hV_apply (i : Fin 1792) (j : Fin 56) (l : Fin 128) :
    hV a0 a1 (ix3 i j l) = Spec.y (rx a0) (rg a1) i ⟨128 * j.val + l.val, by omega⟩ := by
  rw [← hY_apply]
  unfold hV
  refine shapeCast_apply _ _ _ (ix2 i (⟨128 * j.val + l.val, by omega⟩ : Fin 7168)) ?_
  rw [Shape.rowMajor_val_two, Shape.rowMajor_val_three]
  show i.val * 7168 + (128 * j.val + l.val) = (i.val * 56 + j.val) * 128 + l.val
  omega

theorem hV'_apply (k : Fin 7168) (t : Fin 14) (l : Fin 128) :
    hV' a0 a1 (ix3 k t l) = Spec.y (rx a0) (rg a1) ⟨128 * t.val + l.val, by omega⟩ k := by
  rw [← hY_apply]
  unfold hV'
  refine (shapeCast_apply _ _ _ (ix2 k (⟨128 * t.val + l.val, by omega⟩ : Fin 1792)) ?_).trans ?_
  · rw [Shape.rowMajor_val_two, Shape.rowMajor_val_three]
    show k.val * 1792 + (128 * t.val + l.val) = (k.val * 14 + t.val) * 128 + l.val
    omega
  · generalize hY a0 a1 = y
    pointwise

/-- The reference's power with number `n`. -/
theorem hP_apply (n : Fin 253) : hP (ix1 n) = (((2 : ℝ) ^ ((n.val : ℤ) - 125) : ℝ) : EReal) := by
  have h : ∀ n : Fin 253, (4294967171#32 + BitVec.ofNat 32 n.val).toInt = (n.val : ℤ) - 125 := by decide +kernel
  have hb : Ideal.ofBits .f32 0x40000000#32 = ((2 : ℝ) : EReal) := by
    simp [Ideal.ofBits, Ideal.ieee]
    rw [← EReal.coe_mul]; norm_num
  show Ideal.pow (Ideal.ofBits .f32 0x40000000#32) ((((4294967171#32 + BitVec.ofNat 32 n.val).toInt : ℝ) : EReal)) = _
  rw [h, hb]
  show ((Real.rpow 2 (((n.val : ℤ) - 125 : ℤ) : ℝ) : ℝ) : EReal) = _
  congr 1
  exact Real.rpow_intCast 2 _

theorem mulf_at {s : Shape} (a : FVec Ideal s .f32) (b : BitVec 32) (h : (⟨0, ![]⟩ : Shape).BroadcastsInDim s ![]) (i : s.Idx) :
    mulf a (broadcastInDim s ![] h (constant (F := Ideal) ⟨0, ![]⟩ .f32 b)) i = a i * Ideal.ofBits .f32 b := rfl

theorem hT_apply (i : Fin 1792) (j : Fin 56) :
    hT a0 a1 (ix3 i j (0 : Fin 1)) = tOf (Spec.aR (rx a0) (rg a1) i j.val j.isLt) := by
  unfold hT
  rw [mulf_at, Spec.cast3, Spec.top3]
  simp only [hV_apply]
  rfl

theorem hT'_apply (k : Fin 7168) (t : Fin 14) :
    hT' a0 a1 (ix3 k t (0 : Fin 1)) = tOf (Spec.aC (rx a0) (rg a1) t.val t.isLt k) := by
  unfold hT'
  rw [mulf_at, Spec.cast3, Spec.top3]
  simp only [hV'_apply]
  rfl

theorem hS_apply (i : Fin 1792) (j : Fin 56) :
    hS a0 a1 (ix3 i j (0 : Fin 1)) = refScale (Spec.aR (rx a0) (rg a1) i j.val j.isLt) := by
  unfold hS
  rw [Spec.scale3 hP (hT a0 a1) _ _ _ _ _ _ _ _ _ hP_apply i j, hT_apply]
  rfl

theorem hS'_apply (k : Fin 7168) (t : Fin 14) :
    hS' a0 a1 (ix3 k t (0 : Fin 1)) = refScale (Spec.aC (rx a0) (rg a1) t.val t.isLt k) := by
  unfold hS'
  rw [Spec.scale3 hP (hT' a0 a1) _ _ _ _ _ _ _ _ _ hP_apply k t, hT'_apply]
  rfl

/-! ## The results' entries -/

theorem code_at {s : Shape} (y w : FVec Ideal s .f32) (h : (⟨0, ![]⟩ : Shape).BroadcastsInDim s ![]) (i : s.Idx) :
    Host.convertf .fp8e4m3 (minimumf (broadcastInDim s ![] h (id (constant (F := Ideal) ⟨0, ![]⟩ .f32 0x43E00000#32)))
      (maximumf (broadcastInDim s ![] h (id (constant (F := Ideal) ⟨0, ![]⟩ .f32 0xC3E00000#32))) (Host.divf y w))) i = Spec.code (y i) (w i) := rfl

theorem G2_apply (i : Fin 1792) (k : Fin 7168) :
    G2 a0 a1 (ix2 i k) = Spec.code (Spec.y (rx a0) (rg a1) i k) (refScale (Spec.aR (rx a0) (rg a1) i (k.val / 128) (by omega))) := by
  unfold G2
  refine (shapeCast_apply _ _ _ (ix3 i (⟨k.val / 128, by omega⟩ : Fin 56) (⟨k.val % 128, by omega⟩ : Fin 128)) ?_).trans ?_
  · rw [Shape.rowMajor_val_two, Shape.rowMajor_val_three]
    show (i.val * 56 + k.val / 128) * 128 + k.val % 128 = i.val * 7168 + k.val
    omega
  · rw [code_at, Spec.spread3, hS_apply, hV_apply]
    simp only [show 128 * (k.val / 128) + k.val % 128 = k.val by omega]

theorem tr3 (v : FVec Ideal S1792x56x1 .f32) (j : Fin 56) (i : Fin 1792) :
    transpose S56x1792 [1, 0] (shapeCast S1792x56 v shapeCasts_S1792x56x1_S1792x56) transposes_S1792x56_S56x1792_1_0 (ix2 j i) = v (ix3 i j (0 : Fin 1)) := by
  pointwise

theorem tr5 (v : FVec Ideal S7168x14x1 .f32) (t : Fin 14) (k : Fin 7168) :
    transpose S14x7168 [1, 0] (shapeCast S7168x14 v shapeCasts_S7168x14x1_S7168x14) transposes_S7168x14_S14x7168_1_0 (ix2 t k) = v (ix3 k t (0 : Fin 1)) := by
  pointwise

theorem G3_apply (j : Fin 56) (i : Fin 1792) :
    G3 a0 a1 (ix2 j i) = refScale (Spec.aR (rx a0) (rg a1) i j.val j.isLt) := by
  rw [← hS_apply]
  unfold G3
  exact tr3 _ j i

theorem G4_apply (k : Fin 7168) (i : Fin 1792) :
    G4 a0 a1 (ix2 k i) = Spec.code (Spec.y (rx a0) (rg a1) i k) (refScale (Spec.aC (rx a0) (rg a1) (i.val / 128) (by omega) k)) := by
  unfold G4
  refine (shapeCast_apply _ _ _ (ix3 k (⟨i.val / 128, by omega⟩ : Fin 14) (⟨i.val % 128, by omega⟩ : Fin 128)) ?_).trans ?_
  · rw [Shape.rowMajor_val_two, Shape.rowMajor_val_three]
    show (k.val * 14 + i.val / 128) * 128 + i.val % 128 = k.val * 1792 + i.val
    omega
  · rw [code_at, Spec.spread3, hS'_apply, hV'_apply]
    simp only [show 128 * (i.val / 128) + i.val % 128 = i.val by omega]

theorem G5_apply (t : Fin 14) (k : Fin 7168) :
    G5 a0 a1 (ix2 t k) = refScale (Spec.aC (rx a0) (rg a1) t.val t.isLt k) := by
  rw [← hS'_apply]
  unfold G5
  exact tr5 _ t k

theorem G6_apply (t : Fin 14) (l : Fin 128) : G6 a0 (ix2 t l) = Spec.rs (rx a0) ⟨128 * t.val + l.val, by omega⟩ := by
  rw [← hF_apply]
  unfold G6
  refine shapeCast_apply _ _ _ (ix2 (⟨128 * t.val + l.val, by omega⟩ : Fin 1792) (0 : Fin 1)) ?_
  rw [Shape.rowMajor_val_two, Shape.rowMajor_val_two]
  show (128 * t.val + l.val) * 1 + 0 = t.val * 128 + l.val
  omega

end Cert.ReferenceIdeal.Gen

end
-- ==== Proof.Values.lean ====
module

public import proofs.«01_k».proof.Proof.Bound
public import proofs.«01_k».proof.Proof.RefRead
public import proofs.«01_k».proof.Proof.Gen.Pre_gamma_finite
public import Idealize.ShloMosaic.Lib.ReduceAll

@[expose] public section

/-! # The two programs' results are the same arrays -/

noncomputable section

namespace Cert.KernelIdeal.Gen

open Idealize.ShloMosaic Idealize.ShloMosaic.TcCoe Idealize.ShloMosaic.Tactic
open Cert.ReferenceIdeal.Gen (rx rg G2 G3 G4 G5 G6 G2_apply G3_apply G4_apply G5_apply G6_apply)

/-- What the precondition says of `gamma`. -/
theorem gamma_le (a0 : FVec Ideal S2x896x7168 .bf16) (a1 : FVec Ideal S7168 .f32) (h : Cert.Pre_gamma_finite.fn (F := Ideal) a0 a1 = fun _ => 1#1) (k : Fin 7168) :
    max (rg a1 k) (-rg a1 k) ≤ Ideal.ofBits .f32 0x7F7FFFFF#32 := by
  have e : rg a1 k = a1 (ix1 k) := by
    unfold rg
    refine shapeCast_apply _ _ _ (ix1 k) ?_
    rw [Shape.rowMajor_val_one, Shape.rowMajor_val_two]
    show k.val = 0 * 7168 + k.val
    omega
  rw [e]
  have h' := congrFun h (fun a => a.elim0)
  dsimp only [Cert.Pre_gamma_finite.fn] at h'
  have h2 := Host.reduce_andi_all _ _ _ _ _ h' (ix1 k)
  have h3 : Ideal.cmp .ole (max (a1 (ix1 k)) (-a1 (ix1 k))) (Ideal.ofBits .f32 0x7F7FFFFF#32) = 1#1 := h2
  by_contra hn
  simp [Ideal.cmp, hn] at h3

variable (m : (ℓ : Loc nD τ sig) → Buf (Elt Ideal) ℓ) (c : Dev nD)

/-- The arguments. -/
abbrev A0 : FVec Ideal S2x896x7168 .bf16 := m ((c : Thread nD τ).loc main_arg0)
abbrev A1 : FVec Ideal S7168 .f32 := m ((c : Thread nD τ).loc main_arg1)

theorem reads (t : Fin cfg0.N) : Reads (Xb m c t) (Gb m c t) (rx (A0 m c)) (rg (A1 m c)) t.val (t_lt t) where
  hX k hk r l := by
    refine (iblk0_apply m c t _).trans ?_
    refine congrArg (shapeCast S1792x7168 (A0 m c) shapeCasts_S2x896x7168_S1792x7168) (ext2 rfl ?_ ?_)
    · show t.val * 128 + r.val = 128 * t.val + r.val
      omega
    · show k % 56 * 128 + l.val = 128 * k + l.val
      omega
  hG k hk l := by
    refine (iblk1_apply m c t _).trans ?_
    refine congrArg (shapeCast S1x7168 (A1 m c) shapeCasts_S7168_S1x7168) (ext2 rfl rfl ?_)
    show k % 56 * 128 + l.val = 128 * k + l.val
    omega

variable (hg : ∀ k, max (rg (A1 m c) k) (-rg (A1 m c) k) ≤ Ideal.ofBits .f32 0x7F7FFFFF#32)

/-- A property of all entries of a matrix. -/
theorem all2 {A B : ℕ} {P : (⟨2, ![A, B]⟩ : Shape).Idx → Prop} (h : ∀ (i : Fin A) (j : Fin B), P (ix2 i j)) (y) : P y := by
  have e : y = ix2 (y 0) (y 1) := ext2 rfl rfl rfl
  rw [e]
  exact h _ _

theorem pt_lt (n : ℕ) (hn : n < 14) : (pt n).val = n := Nat.mod_eq_of_lt hn

include hg

theorem rc_eq : kRC m c = G2 (A0 m c) (A1 m c) := by
  funext y
  revert y
  refine all2 (A := 1792) (B := 7168) fun i k => ?_
  refine Eq.trans ?_ (G2_apply (A0 m c) (A1 m c) i k).symm
  have e := O2_apply (reads m c (pt (i.val / 128))) (fits _ _ hg) ⟨i.val % 128, by omega⟩ k
  simp only [pt_lt (i.val / 128) (by omega), show 128 * (i.val / 128) + i.val % 128 = i.val by omega] at e
  exact e

theorem rs_eq : kRS m c = G3 (A0 m c) (A1 m c) := by
  funext y
  revert y
  refine all2 (A := 56) (B := 1792) fun j i => ?_
  refine Eq.trans ?_ (G3_apply (A0 m c) (A1 m c) j i).symm
  have e := rowScales_apply (reads m c (pt (i.val / 128))) (fits _ _ hg) j ⟨i.val % 128, by omega⟩
  simp only [pt_lt (i.val / 128) (by omega), show 128 * (i.val / 128) + i.val % 128 = i.val by omega] at e
  exact e

theorem cc_eq : kCC m c = G4 (A0 m c) (A1 m c) := by
  funext y
  revert y
  refine all2 (A := 7168) (B := 1792) fun k i => ?_
  refine Eq.trans ?_ (G4_apply (A0 m c) (A1 m c) k i).symm
  have e := O4_apply (reads m c (pt (i.val / 128))) (fits _ _ hg) k ⟨i.val % 128, by omega⟩
  simp only [pt_lt (i.val / 128) (by omega), show 128 * (i.val / 128) + i.val % 128 = i.val by omega] at e
  exact e

theorem cs_eq : kCS m c = G5 (A0 m c) (A1 m c) := by
  funext y
  revert y
  refine all2 (A := 14) (B := 7168) fun t k => ?_
  refine Eq.trans ?_ (G5_apply (A0 m c) (A1 m c) t k).symm
  have e := colScale_apply (reads m c (pt t.val)) (fits _ _ hg) (k.val / 128) (by omega) ⟨k.val % 128, by omega⟩
  simp only [pt_lt t.val t.isLt, show 128 * (k.val / 128) + k.val % 128 = k.val by omega] at e
  exact e

omit hg in
theorem sg_eq : kSG m c = G6 (A0 m c) := by
  funext y
  revert y
  refine all2 (A := 14) (B := 128) fun t l => ?_
  refine Eq.trans ?_ (G6_apply (A0 m c) t l).symm
  have e := rsRow_apply (reads m c (pt t.val)) l
  simp only [pt_lt t.val t.isLt] at e
  exact e

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.KernelFrame
public import proofs.«01_k».proof.Proof.Gen.KernelIdeal
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_gamma_finite
public import proofs.«01_k».proof.Proof.Values
public import Idealize.ShloMosaic.Adequacy
public import Idealize.ShloMosaic.Init

@[expose] public section

noncomputable section

namespace Cert.Proof

open Idealize.ShloMosaic Idealize.SL.Sem Cert.Kernel

/-- The kernel's five results are the reference's. -/
theorem algebraic : Cert.algebraic_KernelIdeal_ReferenceIdeal_pre_gamma_finite := by
  intro m ρ m' ρ' hpre hagree
  have hg := fun c => Cert.KernelIdeal.Gen.gamma_le _ _ (hpre c)
  refine ⟨fun c => Cert.KernelIdeal.Gen.kRC m c, fun c => Cert.KernelIdeal.Gen.kRS m c, fun c => Cert.KernelIdeal.Gen.kCC m c,
    fun c => Cert.KernelIdeal.Gen.kCS m c, fun c => Cert.KernelIdeal.Gen.kSG m c,
    (θ_run Cert.KernelIdeal.defs _ _).mono (fun r h c => ?_) (Cert.KernelIdeal.Gen.run_main_quiescent m ρ),
    (θ_run Cert.ReferenceIdeal.defs _ _).mono (fun r h c => ?_) (Cert.ReferenceIdeal.Gen.run m' ρ')⟩
  · obtain ⟨h0, h1, h2, h3, h4⟩ := Cert.KernelIdeal.Gen.outs m h.1 c
    obtain ⟨k0, k1⟩ := Cert.KernelIdeal.Gen.args_kept m h.1 c
    exact ⟨h0, h1, h2, h3, h4, k0, k1⟩
  · obtain ⟨h0, h1, h2, h3, h4, k0, k1⟩ := h c
    obtain ⟨e0, e1⟩ := hagree c
    rw [e0, e1] at h0 h1 h2 h3
    rw [e0] at h4
    exact ⟨h0.trans (Cert.KernelIdeal.Gen.rc_eq m c (hg c)).symm, h1.trans (Cert.KernelIdeal.Gen.rs_eq m c (hg c)).symm,
      h2.trans (Cert.KernelIdeal.Gen.cc_eq m c (hg c)).symm, h3.trans (Cert.KernelIdeal.Gen.cs_eq m c (hg c)).symm,
      h4.trans (Cert.KernelIdeal.Gen.sg_eq m c).symm, k0, k1⟩

theorem claim : Cert.Claim := ⟨Cert.Kernel.Gen.facts, Cert.KernelIdeal.Gen.facts, Cert.ReferenceIdeal.Gen.facts, Cert.Pre_gamma_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  IdealRules.named_const.statement Cert.KernelIdeal.κ "inv_d" .f32 0x39124925#32 ((1 / 7168 : ℝ) : EReal) rfl,
  algebraic⟩

end Cert.Proof

end
